-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_within_333 [hPre_within_333 : Cert.Pre_within_333.Facts] (m : (ℓ : Loc Cert.KernelIdeal.nD Cert.KernelIdeal.τ Cert.KernelIdeal.sig) → Buf (Elt Ideal) ℓ) : Prop :=
  ∀ c : Dev Cert.KernelIdeal.nD,
    (Cert.Pre_within_333.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_within_333.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_within_333 [hPre_within_333 : Cert.Pre_within_333.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_within_333.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_within_333.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_within_333 [hKernelIdeal : Cert.KernelIdeal.Facts] [hPre_within_333 : Cert.Pre_within_333.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_within_333 m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_within_333 [hReferenceIdeal : Cert.ReferenceIdeal.Facts] [hPre_within_333 : Cert.Pre_within_333.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_within_333 m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_within_333 [hKernelIdeal : Cert.KernelIdeal.Facts] [hReferenceIdeal : Cert.ReferenceIdeal.Facts] [hPre_within_333 : Cert.Pre_within_333.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_within_333 m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_within_333 : Cert.Pre_within_333.Facts),
    quiescent_Kernel (hKernel := hKernel)
    ∧ quiescent_KernelIdeal (hKernelIdeal := hKernelIdeal)
    ∧ quiescent_KernelIdeal_pre_within_333 (hKernelIdeal := hKernelIdeal) (hPre_within_333 := hPre_within_333)
    ∧ quiescent_ReferenceIdeal (hReferenceIdeal := hReferenceIdeal)
    ∧ quiescent_ReferenceIdeal_pre_within_333 (hReferenceIdeal := hReferenceIdeal) (hPre_within_333 := hPre_within_333)
    ∧ preserves_Kernel_KernelIdeal
    ∧ algebraic_KernelIdeal_ReferenceIdeal_pre_within_333 (hKernelIdeal := hKernelIdeal) (hReferenceIdeal := hReferenceIdeal) (hPre_within_333 := hPre_within_333)
-- ==== Pre_within_333.lean ====
abbrev S1024x16 : Shape := ⟨2, ![1024, 16]⟩
abbrev S100000x16 : Shape := ⟨2, ![100000, 16]⟩
abbrev S_ : Shape := ⟨0, ![]⟩

class Facts : Prop where
  bcast_S_S1024x16 : S_.BroadcastsInDim S1024x16 (![] : Fin 0 → Fin S1024x16.rank)
  bcast_S_S100000x16 : S_.BroadcastsInDim S100000x16 (![] : Fin 0 → Fin S100000x16.rank)

variable [Facts]

def fn {F : FTy → Type} [FloatOps F] (main_arg0 : FVec F S1024x16 .f32) (main_arg1 : FVec F S100000x16 .f32) : IVec S1024x16 1 × IVec S100000x16 1 :=
  let main_v0 : FVec F S1024x16 .f32 := Host.absf main_arg0
  let main_cst : FVec F S_ .f32 := constant S_ .f32 0x43A68000#32
  let main_v1 : FVec F S1024x16 .f32 := broadcastInDim S1024x16 ![] bcast_S_S1024x16 main_cst
  let main_v2 : IVec S1024x16 1 := cmpf .ole main_v0 main_v1
  let main_v3 : FVec F S100000x16 .f32 := Host.absf main_arg1
  let main_cst_0 : FVec F S_ .f32 := constant S_ .f32 0x43A68000#32
  let main_v4 : FVec F S100000x16 .f32 := broadcastInDim S100000x16 ![] bcast_S_S100000x16 main_cst_0
  let main_v5 : IVec S100000x16 1 := cmpf .ole main_v3 main_v4
  (main_v2, main_v5)
-- ==== Kernel.lean ====
abbrev S1024x16 : Shape := ⟨2, ![1024, 16]⟩
abbrev S100000x16 : Shape := ⟨2, ![100000, 16]⟩
abbrev S_ : Shape := ⟨0, ![]⟩
abbrev S2400x16 : Shape := ⟨2, ![2400, 16]⟩
abbrev S102400x16 : Shape := ⟨2, ![102400, 16]⟩
abbrev S102400 : Shape := ⟨1, ![102400]⟩
abbrev S1x102400 : Shape := ⟨2, ![1, 102400]⟩
abbrev S16x102400 : Shape := ⟨2, ![16, 102400]⟩
abbrev S17x102400 : Shape := ⟨2, ![17, 102400]⟩
abbrev S1x1 : Shape := ⟨2, ![1, 1]⟩
abbrev S17x4096 : Shape := ⟨2, ![17, 4096]⟩
abbrev S1024x128 : Shape := ⟨2, ![1024, 128]⟩
abbrev S16x4096 : Shape := ⟨2, ![16, 4096]⟩
abbrev S1024x4096 : Shape := ⟨2, ![1024, 4096]⟩
abbrev S1x4096 : Shape := ⟨2, ![1, 4096]⟩
abbrev S1024x2048 : Shape := ⟨2, ![1024, 2048]⟩
abbrev S1024x1024 : Shape := ⟨2, ![1024, 1024]⟩
abbrev S1024x512 : Shape := ⟨2, ![1024, 512]⟩
abbrev S1024x256 : Shape := ⟨2, ![1024, 256]⟩
abbrev S1024x64 : Shape := ⟨2, ![1024, 64]⟩
abbrev S1024x32 : Shape := ⟨2, ![1024, 32]⟩
abbrev S1024x8 : Shape := ⟨2, ![1024, 8]⟩
abbrev S1024 : Shape := ⟨1, ![1024]⟩
abbrev S1024x1 : Shape := ⟨2, ![1024, 1]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 15
  | .vmem => 6
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S_, .f32⟩
  | .hbm, ⟨3, _⟩ => ⟨S2400x16, .f32⟩
  | .hbm, ⟨4, _⟩ => ⟨S102400x16, .f32⟩
  | .hbm, ⟨5, _⟩ => ⟨S102400x16, .f32⟩
  | .hbm, ⟨6, _⟩ => ⟨S_, .f32⟩
  | .hbm, ⟨7, _⟩ => ⟨S102400, .f32⟩
  | .hbm, ⟨8, _⟩ => ⟨S1x102400, .f32⟩
  | .hbm, ⟨9, _⟩ => ⟨S16x102400, .f32⟩
  | .hbm, ⟨10, _⟩ => ⟨S17x102400, .f32⟩
  | .hbm, ⟨11, _⟩ => ⟨S_, .f32⟩
  | .hbm, ⟨12, _⟩ => ⟨S1024x16, .f32⟩
  | .hbm, ⟨13, _⟩ => ⟨S1024x16, .f32⟩
  | .hbm, ⟨14, _⟩ => ⟨S1x1, .f32⟩
  | .local _ .vmem, ⟨0, _⟩ => ⟨S1024x16, .f32⟩
  | .local _ .vmem, ⟨1, _⟩ => ⟨S17x4096, .f32⟩
  | .local _ .vmem, ⟨2, _⟩ => ⟨S17x4096, .f32⟩
  | .local _ .vmem, ⟨3, _⟩ => ⟨S1x1, .f32⟩
  | .local _ .vmem, ⟨4, _⟩ => ⟨S1024x128, .f32⟩
  | .local _ .vmem, ⟨5, _⟩ => ⟨S1024x128, .f32⟩
  | _, _ => ⟨S1024x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![25], ![false]⟩

def k0_cond2 (i : grid0.Coords) : BitVec 1 :=
  let arg0 : BitVec 32 := BitVec.ofNat 32 (i 0).val
  let c24_i32 : BitVec 32 := 24#32
  let v62 : BitVec 1 := Scalar.cmpi .eq arg0 c24_i32
  let v63 : BitVec 32 := Scalar.extui v62
  let c0_i32_13 : BitVec 32 := 0#32
  let v64 : BitVec 1 := Scalar.cmpi .ne v63 c0_i32_13
  v64

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1024x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S17x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S1024x16 : Shape := ⟨2, ![1024, 16]⟩
abbrev S100000x16 : Shape := ⟨2, ![100000, 16]⟩
abbrev S_ : Shape := ⟨0, ![]⟩
abbrev S1024 : Shape := ⟨1, ![1024]⟩
abbrev S1024x1 : Shape := ⟨2, ![1024, 1]⟩
abbrev S100000 : Shape := ⟨1, ![100000]⟩
abbrev S100000x1 : Shape := ⟨2, ![100000, 1]⟩
abbrev S1x100000 : Shape := ⟨2, ![1, 100000]⟩
abbrev S1024x100000 : Shape := ⟨2, ![1024, 100000]⟩
abbrev S16x100000 : Shape := ⟨2, ![16, 100000]⟩
abbrev S1024x2 : Shape := ⟨2, ![1024, 2]⟩
abbrev S1 : Shape := ⟨1, ![1]⟩
abbrev S1x1 : Shape := ⟨2, ![1, 1]⟩

abbrev nBuf : Space → Nat
  | .hbm => 88
  | .vmem => 0
  | .smem => 0
  | _ => 0

abbrev bufTy : (tb : Table) → Fin (tcTables nBuf tb) → BufTy
  | .hbm, ⟨0, _⟩ => ⟨S1024x16, .f32⟩
  | .hbm, ⟨1, _⟩ => ⟨S100000x16, .f32⟩
  | .hbm, ⟨2, _⟩ => ⟨S1024x16, .f32⟩
  | .hbm, ⟨3, _⟩ => ⟨S_, .f32⟩
  | .hbm, ⟨4, _⟩ => ⟨S1024, .f32⟩
  | .hbm, ⟨5, _⟩ => ⟨S1024x1, .f32⟩
  | .hbm, ⟨6, _⟩ => ⟨S100000x16, .f32⟩
  | .hbm, ⟨7, _⟩ => ⟨S_, .f32⟩
  | .hbm, ⟨8, _⟩ => ⟨S100000, .f32⟩
  | .hbm, ⟨9, _⟩ => ⟨S100000x1, .f32⟩
  | .hbm, ⟨10, _⟩ => ⟨S1x100000, .f32⟩
  | .hbm, ⟨11, _⟩ => ⟨S1024x100000, .f32⟩
  | .hbm, ⟨12, _⟩ => ⟨S1024x100000, .f32⟩
  | .hbm, ⟨13, _⟩ => ⟨S1024x100000, .f32⟩
  | .hbm, ⟨14, _⟩ => ⟨S16x100000, .f32⟩
  | .hbm, ⟨15, _⟩ => ⟨S1024x100000, .f32⟩
  | .hbm, ⟨16, _⟩ => ⟨S_, .f32⟩
  | .hbm, ⟨17, _⟩ => ⟨S1024x100000, .f32⟩
  | .hbm, ⟨18, _⟩ => ⟨S1024x100000, .f32⟩
  | .hbm, ⟨19, _⟩ => ⟨S1024x100000, .f32⟩
  | .hbm, ⟨20, _⟩ => ⟨S_, .f32⟩
  | .hbm, ⟨21, _⟩ => ⟨S_, .f32⟩
  | .hbm, ⟨22, _⟩ => ⟨S1024x100000, .f32⟩
  | .hbm, ⟨23, _⟩ => ⟨S1024x100000, .f32⟩
  | .hbm, ⟨24, _⟩ => ⟨S1024x100000, .f32⟩
  | .hbm, ⟨25, _⟩ => ⟨S1024x100000, .f32⟩
  | .hbm, ⟨26, _⟩ => ⟨S1024x2, .f32⟩
  | .hbm, ⟨27, _⟩ => ⟨S1024x2, .i32⟩
  | .hbm, ⟨28, _⟩ => ⟨S1024x2, .f32⟩
  | .hbm, ⟨29, _⟩ => ⟨S1024x1, .f32⟩
  | .hbm, ⟨30, _⟩ => ⟨S1024, .f32⟩
  | .hbm, ⟨31, _⟩ => ⟨S1024x1, .f32⟩
  | .hbm, ⟨32, _⟩ => ⟨S1024, .f32⟩
  | .hbm, ⟨33, _⟩ => ⟨S_, .f32⟩
  | .hbm, ⟨34, _⟩ => ⟨S1024, .f32⟩
  | .hbm, ⟨35, _⟩ => ⟨S1024, .f32⟩
  | .hbm, ⟨36, _⟩ => ⟨S1024, .i1⟩
  | .hbm, ⟨37, _⟩ => ⟨S1024x1, .i32⟩
  | .hbm, ⟨38, _⟩ => ⟨S1024, .i32⟩
  | .hbm, ⟨39, _⟩ => ⟨S_, .i32⟩
  | .hbm, ⟨40, _⟩ => ⟨S1024, .i32⟩
  | .hbm, ⟨41, _⟩ => ⟨S1024, .i1⟩
  | .hbm, ⟨42, _⟩ => ⟨S_, .i32⟩
  | .hbm, ⟨43, _⟩ => ⟨S1024, .i32⟩
  | .hbm, ⟨44, _⟩ => ⟨S1024, .i32⟩
  | .hbm, ⟨45, _⟩ => ⟨S1024, .i32⟩
  | .hbm, ⟨46, _⟩ => ⟨S1024x1, .i32⟩
  | .hbm, ⟨47, _⟩ => ⟨S1, .i32⟩
  | .hbm, ⟨48, _⟩ => ⟨S_, .i32⟩
  | .hbm, ⟨49, _⟩ => ⟨S1024x1, .i32⟩
  | .hbm, ⟨50, _⟩ => ⟨S1024x1, .i1⟩
  | .hbm, ⟨51, _⟩ => ⟨S1x1, .i32⟩
  | .hbm, ⟨52, _⟩ => ⟨S1024x1, .i32⟩
  | .hbm, ⟨53, _⟩ => ⟨S1024x1, .i1⟩
  | .hbm, ⟨54, _⟩ => ⟨S1024x1, .i1⟩
  | .hbm, ⟨55, _⟩ => ⟨S_, .i1⟩
  | .hbm, ⟨56, _⟩ => ⟨S1024, .i1⟩
  | .hbm, ⟨57, _⟩ => ⟨S1024x16, .f32⟩
  | .hbm, ⟨58, _⟩ => ⟨S1024x16, .i1⟩
  | .hbm, ⟨59, _⟩ => ⟨S_, .f32⟩
  | .hbm, ⟨60, _⟩ => ⟨S1024x16, .f32⟩
  | .hbm, ⟨61, _⟩ => ⟨S1024x16, .f32⟩
  | .hbm, ⟨62, _⟩ => ⟨S1024x16, .f32⟩
  | .hbm, ⟨63, _⟩ => ⟨S1024x16, .f32⟩
  | .hbm, ⟨64, _⟩ => ⟨S_, .f32⟩
  | .hbm, ⟨65, _⟩ => ⟨S1024, .f32⟩
  | .hbm, ⟨66, _⟩ => ⟨S_, .f32⟩
  | .hbm, ⟨67, _⟩ => ⟨S1024, .f32⟩
  | .hbm, ⟨68, _⟩ => ⟨S1024, .f32⟩
  | .hbm, ⟨69, _⟩ => ⟨S1024, .f32⟩
  | .hbm, ⟨70, _⟩ => ⟨S1024, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S_, .i1⟩
  | .hbm, ⟨75, _⟩ => ⟨S_, .f32⟩
  | .hbm, ⟨76, _⟩ => ⟨S_, .f32⟩
  | .hbm, ⟨77, _⟩ => ⟨S1024, .f32⟩
  | .hbm, ⟨78, _⟩ => ⟨S1024, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S1x1, .f32⟩
  | _, _ => ⟨S1024x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_call0_v0 : Ref sig .tc := ⟨.hbm, 21, rfl⟩
abbrev main_call0_v1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_values : Ref sig .tc := ⟨.hbm, 26, rfl⟩
abbrev main_indices : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_call1_c : Ref sig .tc := ⟨.hbm, 39, rfl⟩
abbrev main_call1_v0 : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_v5 : Ref sig .tc := ⟨.hbm, 46, rfl⟩
abbrev main_call1_c_1 : Ref sig .tc := ⟨.hbm, 47, rfl⟩
abbrev main_call1_c_2 : Ref sig .tc := ⟨.hbm, 48, rfl⟩
abbrev main_call1_v6 : Ref sig .tc := ⟨.hbm, 49, rfl⟩
abbrev main_call1_v7 : Ref sig .tc := ⟨.hbm, 50, rfl⟩
abbrev main_call1_v8 : Ref sig .tc := ⟨.hbm, 51, rfl⟩
abbrev main_call1_v9 : Ref sig .tc := ⟨.hbm, 52, rfl⟩
abbrev main_call1_v10 : Ref sig .tc := ⟨.hbm, 53, rfl⟩
abbrev main_call1_v11 : Ref sig .tc := ⟨.hbm, 54, rfl⟩
abbrev main_call1_c_3 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_call1_cst : Ref sig .tc := ⟨.hbm, 59, rfl⟩
abbrev main_call1_v15 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_cst_4 : Ref sig .tc := ⟨.hbm, 64, rfl⟩
abbrev main_v31 : Ref sig .tc := ⟨.hbm, 65, rfl⟩
abbrev main_cst_5 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_cst_6 : Ref sig .tc := ⟨.hbm, 71, rfl⟩
abbrev main_v36 : Ref sig .tc := ⟨.hbm, 72, rfl⟩
abbrev main_cst_7 : Ref sig .tc := ⟨.hbm, 73, rfl⟩
abbrev main_v37 : Ref sig .tc := ⟨.hbm, 74, rfl⟩
abbrev main_cst_8 : Ref sig .tc := ⟨.hbm, 75, rfl⟩
abbrev main_call2_v0 : Ref sig .tc := ⟨.hbm, 76, rfl⟩
abbrev main_call2_v1 : Ref sig .tc := ⟨.hbm, 77, rfl⟩
abbrev main_v38 : Ref sig .tc := ⟨.hbm, 78, rfl⟩
abbrev main_cst_9 : Ref sig .tc := ⟨.hbm, 79, rfl⟩
abbrev main_v39 : Ref sig .tc := ⟨.hbm, 80, rfl⟩
abbrev main_cst_10 : Ref sig .tc := ⟨.hbm, 81, rfl⟩
abbrev main_v40 : Ref sig .tc := ⟨.hbm, 82, rfl⟩
abbrev main_v41 : Ref sig .tc := ⟨.hbm, 83, rfl⟩
abbrev main_cst_11 : Ref sig .tc := ⟨.hbm, 84, rfl⟩
abbrev main_call3_v0 : Ref sig .tc := ⟨.hbm, 85, rfl⟩
abbrev main_v42 : Ref sig .tc := ⟨.hbm, 86, rfl⟩
abbrev main_v43 : Ref sig .tc := ⟨.hbm, 87, rfl⟩

abbrev nD : Nat := 1
abbrev τ : Topo := Topo.v7x

variable {F : FTy → Type} [FloatOps F]
-- ==== Proof.TwoSmallest.lean ====
/- The two smallest values of a finite family, counted with multiplicity.

   A pair (lo, hi) is described by a counting function: `c x` says how many members of the family lie
   strictly below `x`, and (lo, hi) are the two smallest when `lo < x` exactly if `c x` is at least one and
   `hi < x` exactly if `c x` is at least two. Merging two pairs adds the counts, so a tournament of pairs
   keeps the total count whatever the order of the merges. -/
module

public import Idealize.ShloMosaic.Lib.Pointwise

@[expose] public section

noncomputable section

namespace Cert.TwoSmallest

/-- The number of members of the family `f` strictly below `x`. -/
def count {n : ℕ} (f : Fin n → EReal) (x : EReal) : ℕ := ∑ k, if f k < x then 1 else 0

/-- `lo` and `hi` are the two smallest members of a family of which `c x` members lie below `x`. -/
def Two (c : EReal → ℕ) (lo hi : EReal) : Prop := ∀ x, (lo < x ↔ 1 ≤ c x) ∧ (hi < x ↔ 2 ≤ c x)

/-- Merging the two smallest of two families gives the two smallest of both together. -/
theorem Two.merge {c d : EReal → ℕ} {l₁ h₁ l₂ h₂ : EReal} (h : Two c l₁ h₁) (g : Two d l₂ h₂) :
    Two (fun x => c x + d x) (min l₁ l₂) (min (max l₁ l₂) (min h₁ h₂)) := by
  intro x
  obtain ⟨a, b⟩ := h x
  obtain ⟨a', b'⟩ := g x
  rw [min_lt_iff, min_lt_iff, min_lt_iff, max_lt_iff, a, b, a', b']
  constructor <;> dsimp only <;> omega

/-- The two smallest of the empty family are both `⊤`. -/
theorem Two.empty : Two (fun _ => 0) ⊤ ⊤ := by
  intro x
  simp

/-- The two smallest of a family with one member are that member and `⊤`. -/
theorem Two.single (t : EReal) : Two (fun x => if t < x then 1 else 0) t ⊤ := by
  intro x
  by_cases h : t < x <;> simp [h]

/-- The two smallest are determined by the counts. -/
theorem Two.unique {c : EReal → ℕ} {l h l' h' : EReal} (a : Two c l h) (b : Two c l' h') : l = l' ∧ h = h' :=
  ⟨eq_of_forall_gt_iff fun x => (a x).1.trans (b x).1.symm, eq_of_forall_gt_iff fun x => (a x).2.trans (b x).2.symm⟩

/-- Two different members, the first no greater than the second and the second no greater than any member but
    the first, are the two smallest of the family. -/
theorem two_of_order {n : ℕ} {f : Fin n → EReal} {k₀ k₁ : Fin n} (hne : k₁ ≠ k₀) (h01 : f k₀ ≤ f k₁)
    (hmin : ∀ k, k ≠ k₀ → f k₁ ≤ f k) : Two (count f) (f k₀) (f k₁) := by
  intro x
  have hsplit : count f x = (if f k₀ < x then 1 else 0) + ∑ k ∈ Finset.univ.erase k₀, if f k < x then 1 else 0 :=
    (Finset.add_sum_erase _ _ (Finset.mem_univ k₀)).symm
  have hrest : f k₁ < x ↔ 1 ≤ ∑ k ∈ Finset.univ.erase k₀, (if f k < x then 1 else 0) := by
    constructor
    · intro h
      refine le_trans ?_ (Finset.single_le_sum (f := fun k => if f k < x then 1 else 0)
        (fun _ _ => Nat.zero_le _) (Finset.mem_erase.2 ⟨hne, Finset.mem_univ k₁⟩))
      simp [h]
    · intro h
      by_contra hn
      have : ∑ k ∈ Finset.univ.erase k₀, (if f k < x then 1 else 0) = 0 :=
        Finset.sum_eq_zero fun k hk => if_neg fun hk' =>
          hn (lt_of_le_of_lt (hmin k (Finset.mem_erase.1 hk).1) hk')
      omega
  have hle : f k₁ < x → f k₀ < x := fun h => lt_of_le_of_lt h01 h
  rw [hsplit]
  by_cases h0 : f k₀ < x
  · simp only [h0, if_true, true_iff]
    rw [hrest]
    constructor <;> omega
  · have h1 : ¬ f k₁ < x := fun h => h0 (hle h)
    simp only [h0, h1, if_false, false_iff]
    rw [hrest] at h1
    constructor <;> omega

/-- An array of `n` lanes, each holding the two smallest of its own family, the families together having
    `C x` members below `x`. -/
def Lanes (n : ℕ) (lo hi : Fin n → EReal) (C : EReal → ℕ) : Prop :=
  ∃ c : Fin n → EReal → ℕ, (∀ j, Two (c j) (lo j) (hi j)) ∧ ∀ x, ∑ j, c j x = C x

/-- Lanes that hold nothing. -/
theorem Lanes.empty (n : ℕ) : Lanes n (fun _ => ⊤) (fun _ => ⊤) (fun _ => 0) :=
  ⟨fun _ _ => 0, fun _ => Two.empty, fun _ => by simp⟩

/-- Lanes that each hold one member. -/
theorem Lanes.single {n : ℕ} (t : Fin n → EReal) : Lanes n t (fun _ => ⊤) (count t) :=
  ⟨fun j x => if t j < x then 1 else 0, fun j => Two.single (t j), fun _ => rfl⟩

/-- Merging lane by lane adds the counts. -/
theorem Lanes.merge {n : ℕ} {l₁ h₁ l₂ h₂ : Fin n → EReal} {C D : EReal → ℕ} (a : Lanes n l₁ h₁ C)
    (b : Lanes n l₂ h₂ D) :
    Lanes n (fun j => min (l₁ j) (l₂ j)) (fun j => min (max (l₁ j) (l₂ j)) (min (h₁ j) (h₂ j)))
      (fun x => C x + D x) := by
  obtain ⟨c, hc, sc⟩ := a
  obtain ⟨d, hd, sd⟩ := b
  exact ⟨fun j x => c j x + d j x, fun j => (hc j).merge (hd j), fun x => by
    rw [Finset.sum_add_distrib, sc, sd]⟩

/-- Merging the left half of the lanes with the right half keeps the total count. -/
theorem Lanes.halve {n w : ℕ} (hn : n = w + w) {lo hi : Fin n → EReal} {C : EReal → ℕ} (a : Lanes n lo hi C)
    {L R : Fin w → Fin n} (hL : ∀ j, (L j).val = j.val) (hR : ∀ j, (R j).val = w + j.val) :
    Lanes w (fun j => min (lo (L j)) (lo (R j)))
      (fun j => min (max (lo (L j)) (lo (R j))) (min (hi (L j)) (hi (R j)))) C := by
  subst hn
  obtain ⟨c, hc, sc⟩ := a
  refine ⟨fun j x => c (L j) x + c (R j) x, fun j => (hc _).merge (hc _), fun x => ?_⟩
  rw [← sc x, Fin.sum_univ_add, Finset.sum_add_distrib]
  congr 1
  · exact Finset.sum_congr rfl fun j _ => congrArg (fun i => c i x) (Fin.ext (hL j))
  · exact Finset.sum_congr rfl fun j _ => congrArg (fun i => c i x) (Fin.ext (hR j))

/-- The first halving, of lanes that hold one member each: the smaller and the greater of the two. -/
theorem Lanes.pairs {n w : ℕ} (hn : n = w + w) (t : Fin n → EReal)
    {L R : Fin w → Fin n} (hL : ∀ j, (L j).val = j.val) (hR : ∀ j, (R j).val = w + j.val) :
    Lanes w (fun j => min (t (L j)) (t (R j))) (fun j => max (t (L j)) (t (R j))) (count t) := by
  have h := Lanes.halve hn (Lanes.single t) hL hR
  simpa only [min_self, min_top_right] using h

/-- The two smallest over all the lanes, as found without an index: the least lane minimum; then that minimum
    again if more than one lane attains it, else the smaller of the other lanes' minima and the attaining lane's
    second value. -/
theorem Lanes.final {n : ℕ} (hpos : 0 < n) {lo hi : Fin n → EReal} {C : EReal → ℕ} (a : Lanes n lo hi C)
    {b₁ b₂ lo₂ hi₁ : EReal} {N : ℕ}
    (hb₁ : b₁ = Finset.univ.fold min ⊤ lo)
    (hN : N = ∑ j, if lo j = b₁ then 1 else 0)
    (hlo₂ : lo₂ = Finset.univ.fold min ⊤ fun j => if lo j = b₁ then ⊤ else lo j)
    (hhi₁ : hi₁ = Finset.univ.fold min ⊤ fun j => if lo j = b₁ then hi j else ⊤)
    (hb₂ : b₂ = if 1 < N then b₁ else min lo₂ hi₁) : Two C b₁ b₂ := by
  obtain ⟨c, hc, sc⟩ := a
  have hb1 : ∀ x, b₁ < x ↔ ∃ j, lo j < x := fun x => by
    rw [hb₁, Finset.fold_min_lt]
    constructor
    · rintro (h | ⟨j, -, h⟩)
      · exact absurd h not_top_lt
      · exact ⟨j, h⟩
    · rintro ⟨j, h⟩
      exact .inr ⟨j, Finset.mem_univ j, h⟩
  have hble : ∀ j, b₁ ≤ lo j := fun j => by
    by_contra h
    exact lt_irrefl _ ((hb1 _).2 ⟨j, not_le.1 h⟩)
  have hlane : ∀ j x, c j x ≤ C x := fun j x => by
    rw [← sc x]
    exact Finset.single_le_sum (f := fun j => c j x) (fun _ _ => Nat.zero_le _) (Finset.mem_univ j)
  have htwo : ∀ j k x, j ≠ k → c j x + c k x ≤ C x := fun j k x hjk => by
    rw [← sc x, ← Finset.sum_pair (f := fun j => c j x) hjk]
    exact Finset.sum_le_sum_of_subset (Finset.subset_univ _)
  have hfirst : ∀ x, b₁ < x ↔ 1 ≤ C x := fun x => by
    rw [hb1]
    constructor
    · rintro ⟨j, h⟩
      exact le_trans ((hc j x).1.1 h) (hlane j x)
    · intro h
      by_contra hn
      push Not at hn
      have : ∑ j, c j x = 0 := Finset.sum_eq_zero fun j _ => by
        have := mt (hc j x).1.2 (not_lt.2 (hn j))
        omega
      rw [sc x] at this
      omega
  intro x
  refine ⟨hfirst x, ?_⟩
  rw [hb₂]
  have hNcard : N = (Finset.univ.filter fun j => lo j = b₁).card := by
    rw [hN, Finset.card_filter]
  split
  case isTrue h1 =>
    rw [hNcard, Finset.one_lt_card] at h1
    obtain ⟨j, hj, k, hk, hjk⟩ := h1
    simp only [Finset.mem_filter, Finset.mem_univ, true_and] at hj hk
    constructor
    · intro h
      have h1 := (hc j x).1.1 (hj ▸ h)
      have h2 := (hc k x).1.1 (hk ▸ h)
      have := htwo j k x hjk
      omega
    · intro h
      exact (hfirst x).2 (by omega)
  case isFalse h1 =>
    obtain ⟨j₀, hj₀⟩ : ∃ j, lo j = b₁ := by
      by_contra hn
      push Not at hn
      obtain ⟨j, -, hj⟩ := Finset.exists_min_image Finset.univ lo ⟨⟨0, hpos⟩, Finset.mem_univ _⟩
      have hlt : b₁ < lo j := lt_of_le_of_ne (hble j) (hn j).symm
      obtain ⟨k, hk⟩ := (hb1 _).1 hlt
      exact absurd hk (not_lt.2 (hj k (Finset.mem_univ k)))
    have huniq : ∀ j, lo j = b₁ → j = j₀ := fun j hj => by
      rw [hNcard, not_lt, Finset.card_le_one] at h1
      exact h1 j (by simp [hj]) j₀ (by simp [hj₀])
    rw [min_lt_iff, hlo₂, hhi₁, Finset.fold_min_lt, Finset.fold_min_lt]
    constructor
    · rintro ((h | ⟨j, -, h⟩) | (h | ⟨j, -, h⟩))
      · exact absurd h not_top_lt
      · split at h
        case isTrue => exact absurd h not_top_lt
        case isFalse hj =>
          have h1 := (hc j x).1.1 h
          have h2 := (hc j₀ x).1.1 (lt_of_le_of_lt (hj₀ ▸ hble j) h)
          have := htwo j j₀ x (fun e => hj (e ▸ hj₀))
          omega
      · exact absurd h not_top_lt
      · split at h
        case isFalse => exact absurd h not_top_lt
        case isTrue hj => exact le_trans ((hc j x).2.1 h) (hlane j x)
    · intro h
      by_cases h2 : 2 ≤ c j₀ x
      · right; right
        exact ⟨j₀, Finset.mem_univ _, by rw [if_pos hj₀]; exact (hc j₀ x).2.2 h2⟩
      · left; right
        have hs : C x = c j₀ x + ∑ j ∈ Finset.univ.erase j₀, c j x := by
          rw [← sc x]
          exact (Finset.add_sum_erase _ _ (Finset.mem_univ j₀)).symm
        have hex : ∃ j ∈ Finset.univ.erase j₀, c j x ≠ 0 :=
          Finset.exists_ne_zero_of_sum_ne_zero (by omega)
        obtain ⟨j, hj, hcj⟩ := hex
        refine ⟨j, Finset.mem_univ _, ?_⟩
        rw [if_neg fun e => (Finset.mem_erase.1 hj).1 (huniq j e)]
        exact (hc j x).1.2 (by omega)

/-- Counts over `m` consecutive blocks of `n` members add up to the count over all of them. -/
theorem count_blocks {m n : ℕ} (f : Fin (m * n) → EReal) (g : Fin m → Fin n → EReal)
    (h : ∀ (i : Fin m) (j : Fin n) (k : Fin (m * n)), k.val = n * i.val + j.val → f k = g i j) (x : EReal) :
    ∑ i, count (g i) x = count f x := by
  unfold count
  rw [← Equiv.sum_comp finProdFinEquiv, Fintype.sum_prod_type]
  refine Finset.sum_congr rfl fun i _ => Finset.sum_congr rfl fun j _ => ?_
  rw [h i j (finProdFinEquiv (i, j)) (by simp [finProdFinEquiv]; ring)]

end Cert.TwoSmallest

end
-- ==== Proof.Cases.lean ====
/- What the kernel's body leaves at each kind of grid point, in terms of the named payloads: the running lane
   minima and second minima after the point, and, at the last point, the loss. -/
module

public import proofs.«01_k».proof.Proof.Gen.KernelIdeal.Value
public import Idealize.ShloMosaic.Lib.Tactic

@[expose] public section

set_option maxRecDepth 16384

noncomputable section

namespace Cert.KernelIdeal.Cases

open Cert.KernelIdeal Cert.KernelIdeal.Gen Cert.KernelIdeal.Value
open Idealize.ShloMosaic Idealize.ShloMosaic.TcCoe Idealize.SL.Sem

variable {F : FTy → Type} [FloatOps F]

theorem off_zero : (![0, 0] : Fin 2 → Nat) = fun _ => 0 := funext fun a => by fin_cases a <;> rfl

/-- The rows of a key block that hold the keys' coordinates. -/
abbrev coordRows (x1 : Vec F S17x4096 .f32) : Vec F S16x4096 .f32 :=
  View.ld x1 (Rect.unit (s := S17x4096) ![0, 0] S16x4096.size inb_S17x4096_S16x4096_0_0)

/-- The row of a key block that holds the keys' squared norms. -/
abbrev normRow (x1 : Vec F S17x4096 .f32) : Vec F S1x4096 .f32 :=
  View.ld x1 (Rect.unit (s := S17x4096) ![16, 0] S1x4096.size inb_S17x4096_S1x4096_16_0)

/-- The lane minima after a point that finds the minima `lo`. -/
abbrev loAfter (x0 : Vec F S1024x16 .f32) (x1 : Vec F S17x4096 .f32) (lo : Vec F S1024x128 .f32) : FVec F S1024x128 .f32 :=
  k0_pay1 (k0_pay37 x0 (coordRows x1) (normRow x1)) lo

/-- The lanes' second minima after a point that finds the pair `lo`, `hi`. -/
abbrev hiAfter (x0 : Vec F S1024x16 .f32) (x1 : Vec F S17x4096 .f32) (lo hi : Vec F S1024x128 .f32) : FVec F S1024x128 .f32 :=
  k0_pay2 (k0_pay37 x0 (coordRows x1) (normRow x1)) (k0_pay38 x0 (coordRows x1) (normRow x1))
    (k0_pay39 x0 (coordRows x1) (normRow x1)) lo hi

section
variable (c : Dev nD) (i : grid0.Coords) (arg1 : Memref sig .tc .vmem S1024x16 .f32) (harg1 : arg1.IsWhole)
  (arg2 : Memref sig .tc .vmem S17x4096 .f32) (harg2 : arg2.IsWhole) (arg3 : Memref sig .tc .vmem S1x1 .f32)
  (harg3 : arg3.IsWhole) (arg4 : Memref sig .tc .vmem S1024x128 .f32) (harg4 : arg4.IsWhole)
  (arg5 : Memref sig .tc .vmem S1024x128 .f32) (harg5 : arg5.IsWhole)

/-- The first point's lane minima: those of its block merged into empty lanes. -/
theorem lo_A (hc0 : cond0_0 i) (hc1 : ¬cond0_1 i) (x0 : Vec F S1024x16 .f32) (x1 : Vec F S17x4096 .f32) :
    sout0_A_0 c i arg1 harg1 arg2 harg2 arg3 harg3 arg4 harg4 arg5 harg5 hc0 hc1 x0 x1 = loAfter x0 x1 k0_pay21 := by
  unfold sout0_A_0
  rw [View.read_writes_eq_canon _ _ _ (scover0_A_0 c i arg1 harg1 arg2 harg2 arg3 harg3 arg4 harg4 arg5 harg5 hc0 hc1 x0 x1)]
  unfold kernelRun0_A
  dsimp only
  sl_unfold_words
  rw [View.canon_cons_unit_zero (S := S1024x128) off_zero, View.readCov_unit_zero (S := S1024x128) _ off_zero]
  unfold k0_pay3
  simp only [View.readAt_eq_ld, harg1.read_unread, harg2.read_unread, View.ld_unit_zero (S := S1024x16) off_zero, shapeCast_self]

/-- The first point's second minima. -/
theorem hi_A (hc0 : cond0_0 i) (hc1 : ¬cond0_1 i) (x0 : Vec F S1024x16 .f32) (x1 : Vec F S17x4096 .f32) :
    sout0_A_1 c i arg1 harg1 arg2 harg2 arg3 harg3 arg4 harg4 arg5 harg5 hc0 hc1 x0 x1
      = hiAfter x0 x1 k0_pay21 k0_pay22 := by
  unfold sout0_A_1
  rw [View.read_writes_eq_canon _ _ _ (scover0_A_1 c i arg1 harg1 arg2 harg2 arg3 harg3 arg4 harg4 arg5 harg5 hc0 hc1 x0 x1)]
  unfold kernelRun0_A
  dsimp only
  sl_unfold_words
  rw [View.canon_cons_unit_zero (S := S1024x128) off_zero, View.readCov_unit_zero (S := S1024x128) _ off_zero,
    View.readCov_unit_zero (S := S1024x128) _ off_zero]
  unfold k0_pay4
  simp only [View.readAt_eq_ld, harg1.read_unread, harg2.read_unread, View.ld_unit_zero (S := S1024x16) off_zero, shapeCast_self]

/-- A middle point's lane minima. -/
theorem lo_B (hc0 : ¬cond0_0 i) (hc1 : ¬cond0_1 i) (x0 : Vec F S1024x16 .f32) (x1 : Vec F S17x4096 .f32)
    (lo hi : Vec F S1024x128 .f32) :
    sout0_B_0 c i arg1 harg1 arg2 harg2 arg3 harg3 arg4 harg4 arg5 harg5 hc0 hc1 x0 x1 lo hi = loAfter x0 x1 lo := by
  unfold sout0_B_0
  rw [View.read_writes_eq_canon _ _ _ (scover0_B_0 c i arg1 harg1 arg2 harg2 arg3 harg3 arg4 harg4 arg5 harg5 hc0 hc1 x0 x1 lo hi)]
  unfold kernelRun0_B
  dsimp only
  sl_unfold_words
  rw [View.canon_cons_unit_zero (S := S1024x128) off_zero]
  unfold k0_pay3
  simp only [View.readAt_eq_ld, harg1.read_unread, harg2.read_unread, harg4.read_unread, harg5.read_unread,
    View.ld_unit_zero (S := S1024x16) off_zero, View.ld_unit_zero (S := S1024x128) off_zero, shapeCast_self]

/-- A middle point's second minima. -/
theorem hi_B (hc0 : ¬cond0_0 i) (hc1 : ¬cond0_1 i) (x0 : Vec F S1024x16 .f32) (x1 : Vec F S17x4096 .f32)
    (lo hi : Vec F S1024x128 .f32) :
    sout0_B_1 c i arg1 harg1 arg2 harg2 arg3 harg3 arg4 harg4 arg5 harg5 hc0 hc1 x0 x1 lo hi = hiAfter x0 x1 lo hi := by
  unfold sout0_B_1
  rw [View.read_writes_eq_canon _ _ _ (scover0_B_1 c i arg1 harg1 arg2 harg2 arg3 harg3 arg4 harg4 arg5 harg5 hc0 hc1 x0 x1 lo hi)]
  unfold kernelRun0_B
  dsimp only
  sl_unfold_words
  rw [View.canon_cons_unit_zero (S := S1024x128) off_zero]
  unfold k0_pay4
  simp only [View.readAt_eq_ld, harg1.read_unread, harg2.read_unread, harg4.read_unread, harg5.read_unread,
    View.ld_unit_zero (S := S1024x16) off_zero, View.ld_unit_zero (S := S1024x128) off_zero, shapeCast_self]

/-- The last point's result: the loss, from the lanes after that point. -/
theorem out_C (hc0 : ¬cond0_0 i) (hc1 : cond0_1 i) (x0 : Vec F S1024x16 .f32) (x1 : Vec F S17x4096 .f32)
    (lo hi : Vec F S1024x128 .f32) :
    out0_C_2 c i arg1 harg1 arg2 harg2 arg3 harg3 arg4 harg4 arg5 harg5 hc0 hc1 x0 x1 lo hi
      = k0_pay5 (k0_pay18 (loAfter x0 x1 lo)) (k0_pay19 (loAfter x0 x1 lo) (hiAfter x0 x1 lo hi))
          (k0_pay20 (k0_pay23 x0)) := by
  unfold out0_C_2
  rw [View.read_writes_eq_canon _ _ _ (cover0_C_2 c i arg1 harg1 arg2 harg2 arg3 harg3 arg4 harg4 arg5 harg5 hc0 hc1 x0 x1 lo hi)]
  unfold kernelRun0_C
  dsimp only
  sl_unfold_words
  rw [View.canon_cons_unit_zero (S := S1x1) off_zero]
  simp only [View.readAt_eq_ld, harg1.read_unread, harg2.read_unread, harg4.read_unread, harg5.read_unread,
    View.ld_unit_zero (S := S1024x16) off_zero, View.ld_unit_zero (S := S1024x128) off_zero]

end

variable (m : (ℓ : Loc nD τ sig) → Buf (Elt F) ℓ)

/-- The two scratch arrays after point `n`, by recursion on the point. -/
def state (c : Dev nD) : (n : ℕ) → n < cfg0.N → Vec F S1024x128 .f32 × Vec F S1024x128 .f32
  | 0, h => (loAfter (iblk m c 0 ⟨0, h⟩) (iblk m c 1 ⟨0, h⟩) k0_pay21,
      hiAfter (iblk m c 0 ⟨0, h⟩) (iblk m c 1 ⟨0, h⟩) k0_pay21 k0_pay22)
  | n + 1, h => (loAfter (iblk m c 0 ⟨n + 1, h⟩) (iblk m c 1 ⟨n + 1, h⟩) (state c n (Nat.lt_of_succ_lt h)).1,
      hiAfter (iblk m c 0 ⟨n + 1, h⟩) (iblk m c 1 ⟨n + 1, h⟩) (state c n (Nat.lt_of_succ_lt h)).1
        (state c n (Nat.lt_of_succ_lt h)).2)

/-- Before the last point, the run's scratch contents are this recursion. -/
theorem outsAt_state (c : Dev nD) : ∀ (n : ℕ) (h : n < cfg0.N), n < 24 → (outsAt0 m c n h).2 = state m c n h
  | 0, h, _ => by
    rw [outsAt0_zero, stAt0_A m c ⟨0, h⟩ _ rfl (by dsimp only; omega)]
    dsimp only
    rw [lo_A, hi_A]
    rfl
  | n + 1, h, hn => by
    rw [outsAt0_succ, stAt0_B m c ⟨n + 1, h⟩ _ (by dsimp only; omega) (by dsimp only; omega)]
    dsimp only
    rw [lo_B, hi_B]
    have e := outsAt_state c n (Nat.lt_of_succ_lt h) (by omega)
    rw [e]
    rfl

/-- The loss the kernel computes from the lanes `lo`, `hi` after the last point and the scaled queries `x0`. -/
abbrev lossOf (x0 : Vec F S1024x16 .f32) (lo hi : Vec F S1024x128 .f32) : FVec F S1x1 .f32 :=
  k0_pay5 (k0_pay18 lo) (k0_pay19 lo hi) (k0_pay20 (k0_pay23 x0))

theorem last_lt : 24 < cfg0.N := lt_of_lt_of_eq (by decide) N_0.symm

/-- The result array after the run. -/
theorem result_eq (c : Dev nD) :
    G2 m c = lossOf (iblk m c 0 ⟨24, last_lt⟩) (state m c 24 last_lt).1 (state m c 24 last_lt).2 := by
  rw [G2_last]
  have e := outsAt0_sweep m c 24 last_lt
  rw [← e, outsAt0_succ m c 23 last_lt, stAt0_C m c ⟨24, last_lt⟩ _ (by decide) rfl]
  dsimp only
  rw [out_C]
  have e := outsAt_state m c 23 (Nat.lt_of_succ_lt last_lt) (by decide)
  rw [e]
  rfl

end Cert.KernelIdeal.Cases

end
-- ==== Proof.Constants.lean ====
/- The extended reals that the two programs' constants denote, and two-valued words read as numbers. -/
module

public import Idealize.ShloMosaic.Lib.Pointwise
public import Idealize.ShloMosaic.Lib.IdealHost

@[expose] public section

noncomputable section

namespace Cert.Constants

open Idealize.ShloMosaic

/-- Positive infinity. -/
theorem inf_eq : Ideal.ofBits .f32 0x7F800000#32 = (⊤ : EReal) := by
  simp [Ideal.ofBits, Ideal.ieee]

/-- Two. -/
theorem two_eq : Ideal.ofBits .f32 0x40000000#32 = ((2 : ℝ) : EReal) := by
  simp [Ideal.ofBits, Ideal.ieee, -EReal.coe_mul, -EReal.coe_neg]
  norm_num

/-- Minus two. -/
theorem neg_two_eq : Ideal.ofBits .f32 0xC0000000#32 = ((-2 : ℝ) : EReal) := by
  simp [Ideal.ofBits, Ideal.ieee, -EReal.coe_mul, -EReal.coe_neg]
  norm_num

/-- One quarter. -/
theorem quarter_eq : Ideal.ofBits .f32 0x3E800000#32 = ((1 / 4 : ℝ) : EReal) := by
  simp [Ideal.ofBits, Ideal.ieee, -EReal.coe_mul, -EReal.coe_neg]
  norm_num

/-- One thousand, the coordinate of the padding keys. -/
theorem thousand_eq : Ideal.ofBits .f32 0x447A0000#32 = ((1000 : ℝ) : EReal) := by
  simp [Ideal.ofBits, Ideal.ieee, -EReal.coe_mul, -EReal.coe_neg]
  norm_num

/-- The bound on the entries. -/
theorem bound_eq : Ideal.ofBits .f32 0x43A68000#32 = ((333 : ℝ) : EReal) := by
  simp [Ideal.ofBits, Ideal.ieee, -EReal.coe_mul, -EReal.coe_neg]
  norm_num

/-- A decided bit, widened and read signed, is one or zero. -/
theorem sitofp_decide (p : Prop) [Decidable p] :
    (FloatOps.sitofp .f32 (BitVec.setWidth 32 (BitVec.ofBool (decide p))) : Ideal .f32)
      = (if p then (1 : EReal) else 0) := by
  show (((BitVec.setWidth 32 (BitVec.ofBool (decide p))).toInt : ℝ) : EReal) = _
  by_cases h : p <;> simp [h]

/-- A decided bit read unsigned is one or zero. -/
theorem uitofp_decide (p : Prop) [Decidable p] :
    (FloatOps.uitofp .f32 (BitVec.ofBool (decide p)) : Ideal .f32) = (if p then (1 : EReal) else 0) := by
  show (((BitVec.ofBool (decide p)).toNat : ℝ) : EReal) = _
  by_cases h : p <;> simp [h]

/-- A sum of ones and zeros, read in the extended reals. -/
theorem sum_indicator {n : ℕ} (p : Fin n → Prop) [DecidablePred p] :
    (∑ j, if p j then (1 : EReal) else 0) = ((∑ j, if p j then 1 else 0 : ℕ) : EReal) := by
  rw [Nat.cast_sum]
  refine Finset.sum_congr rfl fun j _ => ?_
  split <;> simp

end Cert.Constants

end
-- ==== Proof.BlockLanes.lean ====
/- The kernel's halving steps, read as lanes: one grid point's tournament over its block of 4096 scores, and the
   last point's tournament over the 128 lanes and the index-free choice of the two smallest among the last eight. -/
module

public import proofs.«01_k».proof.Proof.TwoSmallest
public import proofs.«01_k».proof.Proof.Cases
public import proofs.«01_k».proof.Proof.Constants

@[expose] public section

set_option maxRecDepth 16384

noncomputable section

namespace Cert.KernelIdeal.BlockLanes

open Cert.KernelIdeal Cert.KernelIdeal.Gen Cert.KernelIdeal.Cases Cert.TwoSmallest
open Idealize.ShloMosaic Idealize.ShloMosaic.Pointwise

/-- Row `q` of an array of 1024 rows. -/
abbrev row {n : ℕ} (v : FVec Ideal ⟨2, ![1024, n]⟩ .f32) (q : Fin 1024) : Fin n → EReal := fun j => v (ix2 q j)

/-- A slice of the columns from `o` on, read in a row. -/
theorem slice_row {n w o : ℕ} (v : FVec Ideal ⟨2, ![1024, n]⟩ .f32)
    (h : (⟨2, ![1024, n]⟩ : Shape).Slices ![0, o] ⟨2, ![1024, w]⟩) (q : Fin 1024) (j : Fin w) (hj : o + j.val < n) :
    extractStridedSlice ⟨2, ![1024, w]⟩ ![0, o] v h (ix2 q j) = v (ix2 q ⟨o + j.val, hj⟩) := by
  unfold extractStridedSlice
  refine congrArg v (funext fun a => Fin.ext ?_)
  match a with
  | ⟨0, _⟩ => exact Nat.zero_add _
  | ⟨1, _⟩ => rfl

/-- One halving step of the kernel keeps the total count of a row's lanes. -/
theorem step {n w : ℕ} (hn : n = w + w) {lo hi : FVec Ideal ⟨2, ![1024, n]⟩ .f32} {C : EReal → ℕ} {q : Fin 1024}
    (a : Lanes n (row lo q) (row hi q) C)
    (hL : (⟨2, ![1024, n]⟩ : Shape).Slices ![0, 0] ⟨2, ![1024, w]⟩)
    (hR : (⟨2, ![1024, n]⟩ : Shape).Slices ![0, w] ⟨2, ![1024, w]⟩) :
    Lanes w
      (row (minimumf (extractStridedSlice ⟨2, ![1024, w]⟩ ![0, 0] lo hL) (extractStridedSlice ⟨2, ![1024, w]⟩ ![0, w] lo hR)) q)
      (row (minimumf
        (maximumf (extractStridedSlice ⟨2, ![1024, w]⟩ ![0, 0] lo hL) (extractStridedSlice ⟨2, ![1024, w]⟩ ![0, w] lo hR))
        (minimumf (extractStridedSlice ⟨2, ![1024, w]⟩ ![0, 0] hi hL) (extractStridedSlice ⟨2, ![1024, w]⟩ ![0, w] hi hR))) q)
      C := by
  have h := Lanes.halve hn a (L := fun j : Fin w => ⟨0 + j.val, by omega⟩) (R := fun j : Fin w => ⟨w + j.val, by omega⟩)
    (fun j => Nat.zero_add _) (fun j => rfl)
  convert h using 2 with j j
  · show min _ _ = _
    rw [slice_row lo hL q j (by omega), slice_row lo hR q j (by omega)]
  · show min (max _ _) (min _ _) = _
    rw [slice_row lo hL q j (by omega), slice_row lo hR q j (by omega), slice_row hi hL q j (by omega),
      slice_row hi hR q j (by omega)]

/-- The first halving step of a block, whose lanes hold one score each. -/
theorem firstStep {n w : ℕ} (hn : n = w + w) (t : FVec Ideal ⟨2, ![1024, n]⟩ .f32) (q : Fin 1024)
    (hL : (⟨2, ![1024, n]⟩ : Shape).Slices ![0, 0] ⟨2, ![1024, w]⟩)
    (hR : (⟨2, ![1024, n]⟩ : Shape).Slices ![0, w] ⟨2, ![1024, w]⟩) :
    Lanes w
      (row (minimumf (extractStridedSlice ⟨2, ![1024, w]⟩ ![0, 0] t hL) (extractStridedSlice ⟨2, ![1024, w]⟩ ![0, w] t hR)) q)
      (row (maximumf (extractStridedSlice ⟨2, ![1024, w]⟩ ![0, 0] t hL) (extractStridedSlice ⟨2, ![1024, w]⟩ ![0, w] t hR)) q)
      (count (row t q)) := by
  have h := Lanes.pairs hn (row t q) (L := fun j : Fin w => ⟨0 + j.val, by omega⟩) (R := fun j : Fin w => ⟨w + j.val, by omega⟩)
    (fun j => Nat.zero_add _) (fun j => rfl)
  convert h using 2 with j j
  · show min _ _ = _
    rw [slice_row t hL q j (by omega), slice_row t hR q j (by omega)]
  · show max _ _ = _
    rw [slice_row t hL q j (by omega), slice_row t hR q j (by omega)]

/-- One point's tournament: the 128 lanes it ends with hold the two smallest of their shares of the 4096 scores. -/
theorem block (v3 : Vec Ideal S1024x16 .f32) (v5 : Vec Ideal S16x4096 .f32) (v8 : Vec Ideal S1x4096 .f32) (q : Fin 1024) :
    Lanes 128 (row (k0_pay37 v3 v5 v8) q) (row (minimumf (k0_pay38 v3 v5 v8) (k0_pay39 v3 v5 v8)) q)
      (count (row (k0_pay24 v3 v5 v8) q)) := by
  have h := firstStep (w := 2048) rfl (k0_pay24 v3 v5 v8) q slices_S1024x4096_o0_0_S1024x2048 slices_S1024x4096_o0_2048_S1024x2048
  have h := step (w := 1024) rfl h slices_S1024x2048_o0_0_S1024x1024 slices_S1024x2048_o0_1024_S1024x1024
  have h := step (w := 512) rfl h slices_S1024x1024_o0_0_S1024x512 slices_S1024x1024_o0_512_S1024x512
  have h := step (w := 256) rfl h slices_S1024x512_o0_0_S1024x256 slices_S1024x512_o0_256_S1024x256
  exact step (w := 128) rfl h slices_S1024x256_o0_0_S1024x128 slices_S1024x256_o0_128_S1024x128

/-- A point adds its block's count to the lanes it finds. -/
theorem after {lo hi : Vec Ideal S1024x128 .f32} {C : EReal → ℕ} {q : Fin 1024} (a : Lanes 128 (row lo q) (row hi q) C)
    (x0 : Vec Ideal S1024x16 .f32) (x1 : Vec Ideal S17x4096 .f32) :
    Lanes 128 (row (loAfter x0 x1 lo) q) (row (hiAfter x0 x1 lo hi) q)
      (fun x => C x + count (row (k0_pay24 x0 (coordRows x1) (normRow x1)) q) x) :=
  Lanes.merge a (block x0 (coordRows x1) (normRow x1) q)

/-- The second smallest, from eight lanes `lo`, `hi` and the least lane minimum `b`: `b` again if more than one lane
    attains it, else the smaller of the other lanes' minima and the attaining lane's second value. -/
def second (lo hi : FVec Ideal S1024x8 .f32) (b : FVec Ideal S1024x1 .f32) : FVec Ideal S1024x1 .f32 :=
  have eq : IVec S1024x8 1 := cmpf .oeq lo (broadcastTo S1024x8 b broadcasts_S1024x1_S1024x8)
  have inf : Ideal .f32 := Scalar.ofBits .f32 0x7F800000#32
  have one : Ideal .f32 := Scalar.ofBits .f32 0x3F800000#32
  have ones : FVec Ideal S1024 .f32 := multiReduction .add [1] S1024 (sitofp .f32 (extui 32 eq natLt_1_32) : FVec Ideal S1024x8 .f32) 0x00000000#32 reduces_S1024x8_S1024 (.inl rfl) rfl
  have others : FVec Ideal S1024 .f32 := multiReduction .minimumf [1] S1024 (select eq (broadcast S1024x8 inf) lo) 0x7F800000#32 reduces_S1024x8_S1024 (.inl rfl) rfl
  have own : FVec Ideal S1024 .f32 := multiReduction .minimumf [1] S1024 (select eq hi (broadcast S1024x8 inf)) 0x7F800000#32 reduces_S1024x8_S1024 (.inl rfl) rfl
  select (cmpf .ogt (shapeCast S1024x1 ones shapeCasts_S1024_S1024x1) (broadcast S1024x1 one)) b
    (minimumf (shapeCast S1024x1 others shapeCasts_S1024_S1024x1) (shapeCast S1024x1 own shapeCasts_S1024_S1024x1))

/-- The last point's tournament: eight lanes with the same total count, from which the second smallest is chosen. -/
theorem eight {lo hi : FVec Ideal S1024x128 .f32} {C : Fin 1024 → EReal → ℕ}
    (a : ∀ q, Lanes 128 (row lo q) (row hi q) (C q)) :
    ∃ hi8 : FVec Ideal S1024x8 .f32, (∀ q, Lanes 8 (row (k0_pay17 lo) q) (row hi8 q) (C q)) ∧
      k0_pay19 lo hi = second (k0_pay17 lo) hi8 (k0_pay18 lo) := by
  have h := fun q => step (w := 64) rfl (a q) slices_S1024x128_o0_0_S1024x64 slices_S1024x128_o0_64_S1024x64
  have h := fun q => step (w := 32) rfl (h q) slices_S1024x64_o0_0_S1024x32 slices_S1024x64_o0_32_S1024x32
  have h := fun q => step (w := 16) rfl (h q) slices_S1024x32_o0_0_S1024x16 slices_S1024x32_o0_16_S1024x16
  exact ⟨_, fun q => step (w := 8) rfl (h q) slices_S1024x16_o0_0_S1024x8 slices_S1024x16_o0_8_S1024x8, rfl⟩

/-- The least lane minimum, read in a row. -/
theorem first_apply (lo : FVec Ideal S1024x128 .f32) (q : Fin 1024) :
    k0_pay18 lo (ix2 q 0) = Finset.univ.fold min ⊤ (row (k0_pay17 lo) q) := by
  unfold k0_pay18
  pointwise
  rw [Constants.inf_eq]

/-- The second smallest, read in a row. -/
theorem second_apply (lo hi : FVec Ideal S1024x8 .f32) (b : FVec Ideal S1024x1 .f32) (q : Fin 1024) :
    second lo hi b (ix2 q 0)
      = if 1 < ∑ j, (if row lo q j = b (ix2 q 0) then 1 else 0) then b (ix2 q 0)
        else min (Finset.univ.fold min ⊤ fun j => if row lo q j = b (ix2 q 0) then ⊤ else row lo q j)
          (Finset.univ.fold min ⊤ fun j => if row lo q j = b (ix2 q 0) then row hi q j else ⊤) := by
  unfold second
  pointwise
  simp only [Constants.inf_eq, Constants.sitofp_decide, Constants.sum_indicator, Ideal.ofBits_one_f32, Ideal.ofBits_zero_f32]
  refine if_congr ?_ rfl rfl
  rw [← Nat.cast_one, Nat.cast_lt]

/-- From 128 lanes with total counts `C`, the last point's choice is the two smallest of each row. -/
theorem two_of_lanes {lo hi : FVec Ideal S1024x128 .f32} {C : Fin 1024 → EReal → ℕ}
    (a : ∀ q, Lanes 128 (row lo q) (row hi q) (C q)) (q : Fin 1024) :
    Two (C q) (k0_pay18 lo (ix2 q 0)) (k0_pay19 lo hi (ix2 q 0)) := by
  obtain ⟨hi8, h, e⟩ := eight a
  rw [e, second_apply]
  exact Lanes.final (by decide) (h q) (first_apply lo q) rfl rfl rfl rfl

variable (m : (ℓ : Loc nD τ sig) → Buf (Elt Ideal) ℓ)

/-- The scores that point `t` computes for query `q`. -/
def scores (c : Dev nD) (q : Fin 1024) (t : Fin cfg0.N) : Fin 4096 → EReal :=
  row (k0_pay24 (F := Ideal) (iblk m c 0 t) (coordRows (iblk m c 1 t)) (normRow (iblk m c 1 t))) q

/-- After point `n` the scratch lanes count the scores of all points up to `n`. -/
theorem lanes_state (c : Dev nD) (q : Fin 1024) : ∀ (n : ℕ) (h : n < cfg0.N),
    Lanes 128 (row (state m c n h).1 q) (row (state m c n h).2 q)
      (fun x => ∑ i : Fin (n + 1), count (scores m c q ⟨i.val, lt_of_le_of_lt (Nat.le_of_lt_succ i.isLt) h⟩) x)
  | 0, h => by
    have e : Lanes 128 (row (k0_pay21 (F := Ideal)) q) (row (k0_pay22 (F := Ideal)) q) (fun _ => 0) := by
      have hlo : row (k0_pay21 (F := Ideal)) q = fun _ => ⊤ := by
        funext j; unfold k0_pay21; pointwise; exact Constants.inf_eq
      have hhi : row (k0_pay22 (F := Ideal)) q = fun _ => ⊤ := by
        funext j; unfold k0_pay22; pointwise; exact Constants.inf_eq
      rw [hlo, hhi]
      exact Lanes.empty 128
    have h' := after e (iblk m c 0 ⟨0, h⟩) (iblk m c 1 ⟨0, h⟩)
    have hc : (fun x => ∑ i : Fin (0 + 1),
        count (scores m c q ⟨i.val, lt_of_le_of_lt (Nat.le_of_lt_succ i.isLt) h⟩) x)
          = fun x => 0 + count (scores m c q ⟨0, h⟩) x := by
      funext x
      exact (Fin.sum_univ_one _).trans (Nat.zero_add _).symm
    rw [hc]
    exact h'
  | n + 1, h => by
    have h' := after (lanes_state c q n (Nat.lt_of_succ_lt h)) (iblk m c 0 ⟨n + 1, h⟩) (iblk m c 1 ⟨n + 1, h⟩)
    have hc : (fun x => ∑ i : Fin (n + 1 + 1),
        count (scores m c q ⟨i.val, lt_of_le_of_lt (Nat.le_of_lt_succ i.isLt) h⟩) x)
          = fun x => (∑ i : Fin (n + 1), count (scores m c q ⟨i.val, lt_of_le_of_lt (Nat.le_of_lt_succ i.isLt)
              (Nat.lt_of_succ_lt h)⟩) x) + count (scores m c q ⟨n + 1, h⟩) x := by
      funext x
      exact Fin.sum_univ_castSucc _
    rw [hc]
    exact h'

/-- The kernel's last point finds, for every query, the two smallest of its scores. -/
theorem two_state (c : Dev nD) (q : Fin 1024) :
    Two (fun x => ∑ i : Fin 25, count (scores m c q ⟨i.val, lt_of_le_of_lt (Nat.le_of_lt_succ i.isLt) last_lt⟩) x)
      (k0_pay18 (F := Ideal) (state m c 24 last_lt).1 (ix2 q 0))
      (k0_pay19 (F := Ideal) (state m c 24 last_lt).1 (state m c 24 last_lt).2 (ix2 q 0)) :=
  two_of_lanes (fun q => lanes_state m c q 24 last_lt) q

end Cert.KernelIdeal.BlockLanes

end
-- ==== Proof.Arrays.lean ====
/- The two arrays the kernel's windows read, entry by entry: the queries times minus two, and the padded keys with
   their squared norms below them. -/
module

public import proofs.«01_k».proof.Proof.BlockLanes
public import Idealize.ShloMosaic.Lib.StableHlo.RunRead

@[expose] public section

set_option maxRecDepth 16384

noncomputable section

namespace Cert.KernelIdeal.Arrays

open Cert.KernelIdeal Cert.KernelIdeal.Gen Cert.KernelIdeal.Cases Cert.KernelIdeal.BlockLanes Cert.TwoSmallest
open Idealize.ShloMosaic Idealize.ShloMosaic.Pointwise Idealize.ShloMosaic.StableHlo

/-- The keys with 2400 rows of the constant one thousand after them. -/
def padded (x1 : FVec Ideal S100000x16 .f32) : FVec Ideal S102400x16 .f32 :=
  concatenate S102400x16 0 [⟨S100000x16, x1⟩, ⟨S2400x16, broadcastInDim S2400x16 ![] bcast_S_S2400x16 (constant S_ .f32 0x447A0000#32)⟩]
    concatenates_S100000x16_S2400x16_S102400x16_d0

/-- The second window's array: the padded keys transposed, and their squared norms as the last row. -/
def keysAndNorms (x1 : FVec Ideal S100000x16 .f32) : FVec Ideal S17x102400 .f32 :=
  concatenate S17x102400 0
    [⟨S16x102400, transpose S16x102400 [1, 0] (padded x1) transposes_S102400x16_S16x102400_1_0⟩,
     ⟨S1x102400, broadcastInDim S1x102400 ![1] bcast_S102400_S1x102400_1
        (Host.reduceAdd (mulf (padded x1) (padded x1)) (constant S_ .f32 0x00000000#32) reducesTo_S102400x16_S102400_d1 h_S_)⟩]
    concatenates_S16x102400_S1x102400_S17x102400_d0

/-- The first window's array: the queries times minus two. -/
def scaled (x0 : FVec Ideal S1024x16 .f32) : FVec Ideal S1024x16 .f32 :=
  mulf (broadcastInDim S1024x16 ![] bcast_S_S1024x16 (constant S_ .f32 0xC0000000#32)) x0

variable (m : (ℓ : Loc nD τ sig) → Buf (Elt Ideal) ℓ)

/-- What the kernel finds in its first window's array. -/
theorem V_scaled (c : Dev nD) : V m c main_v8 = scaled (m ((c.tc : Thread nD τ).loc main_arg0)) := by
  unfold scaled
  after_results_simp <;> rfl

/-- What the kernel finds in its second window's array. -/
theorem V_keys (c : Dev nD) : V m c main_v6 = keysAndNorms (m ((c.tc : Thread nD τ).loc main_arg1)) := by
  unfold keysAndNorms padded
  after_results_simp <;> rfl

/-- A padded key's entry: the key's, or one thousand past the last key. -/
def keyAt (x1 : FVec Ideal S100000x16 .f32) (k : Fin 102400) (d : Fin 16) : EReal :=
  if h : k.val < 100000 then x1 (ix2 ⟨k.val, h⟩ d) else ((1000 : ℝ) : EReal)

theorem padded_apply (x1 : FVec Ideal S100000x16 .f32) (k : Fin 102400) (d : Fin 16) :
    padded x1 (ix2 k d) = keyAt x1 k d := by
  unfold padded keyAt
  pointwise
  rw [Constants.thousand_eq]

theorem scaled_apply (x0 : FVec Ideal S1024x16 .f32) (q : Fin 1024) (d : Fin 16) :
    scaled x0 (ix2 q d) = ((-2 : ℝ) : EReal) * x0 (ix2 q d) := by
  unfold scaled
  pointwise
  rw [Constants.neg_two_eq]

theorem coords_apply (x1 : FVec Ideal S100000x16 .f32) (r : Fin 17) (hr : r.val < 16) (k : Fin 102400) :
    keysAndNorms x1 (ix2 r k) = keyAt x1 k ⟨r.val, hr⟩ := by
  unfold keysAndNorms
  pointwise
  rw [dif_pos hr]
  exact padded_apply x1 k _

theorem norms_apply (x1 : FVec Ideal S100000x16 .f32) (r : Fin 17) (hr : r.val = 16) (k : Fin 102400) :
    keysAndNorms x1 (ix2 r k) = ∑ d, keyAt x1 k d * keyAt x1 k d := by
  unfold keysAndNorms
  pointwise
  rw [dif_neg (by omega)]
  exact Finset.sum_congr rfl fun d _ => by rw [padded_apply]

end Cert.KernelIdeal.Arrays

end
-- ==== Proof.Scores.lean ====
/- The kernel's scores, entry by entry: a padded key's squared norm less twice its product with the query; and the
   two smallest of a query's scores over all padded keys. -/
module

public import proofs.«01_k».proof.Proof.Arrays
public import Idealize.ShloMosaic.Lib.Pipeline.ValueKit.Tiles

@[expose] public section

set_option maxRecDepth 16384

noncomputable section

namespace Cert.KernelIdeal.Scores

open Cert.KernelIdeal Cert.KernelIdeal.Gen Cert.KernelIdeal.Cases Cert.KernelIdeal.BlockLanes Cert.KernelIdeal.Arrays
open Cert.TwoSmallest
open Idealize.ShloMosaic Idealize.ShloMosaic.Pointwise

variable (m : (ℓ : Loc nD τ sig) → Buf (Elt Ideal) ℓ)

/-- The first window's block is its whole array at every point. -/
theorem queries_eq (c : Dev nD) (t : Fin cfg0.N) :
    (iblk m c 0 t : Vec Ideal S1024x16 .f32) = scaled (m ((c.tc : Thread nD τ).loc main_arg0)) := by
  rw [← V_scaled m c]
  funext j
  unfold iblk
  rw [View.read_apply]
  show V m c main_v8 _ = V m c main_v8 _
  congr 1
  funext a
  apply Fin.ext
  match a with
  | ⟨0, _⟩ => show 0 * 1024 + 1 * (j 0).val = (j 0).val; omega
  | ⟨1, _⟩ => show 0 * 16 + 1 * (j 1).val = (j 1).val; omega

/-- The second window's block at point `t` is columns `4096 t …` of its array. -/
theorem block_apply (c : Dev nD) (t : Fin cfg0.N) (r : Fin 17) (j : Fin 4096) (h : 4096 * t.val + j.val < 102400) :
    (iblk m c 1 t : Vec Ideal S17x4096 .f32) (ix2 r j)
      = keysAndNorms (m ((c.tc : Thread nD τ).loc main_arg1)) (ix2 r ⟨4096 * t.val + j.val, h⟩) := by
  rw [← V_keys m c]
  have hi : win0_1.index t 1 = t.val := (by decide : ∀ t : Fin grid0.N, win0_1.index t 1 = t.val) t
  unfold iblk
  rw [View.read_apply]
  show V m c main_v6 _ = V m c main_v6 _
  congr 1
  funext a
  apply Fin.ext
  match a with
  | ⟨0, _⟩ => show 0 * 17 + 1 * r.val = r.val; omega
  | ⟨1, _⟩ => show win0_1.index t 1 * 4096 + 1 * j.val = 4096 * t.val + j.val; rw [hi]; omega

/-- The score of padded key `k` for query `q`. -/
def score (x0 : FVec Ideal S1024x16 .f32) (x1 : FVec Ideal S100000x16 .f32) (q : Fin 1024) (k : Fin 102400) : EReal :=
  (∑ d, keyAt x1 k d * keyAt x1 k d) + ∑ d, ((-2 : ℝ) : EReal) * x0 (ix2 q d) * keyAt x1 k d

theorem scores_apply (c : Dev nD) (q : Fin 1024) (t : Fin cfg0.N) (j : Fin 4096) (h : 4096 * t.val + j.val < 102400) :
    scores m c q t j
      = score (m ((c.tc : Thread nD τ).loc main_arg0)) (m ((c.tc : Thread nD τ).loc main_arg1)) q ⟨4096 * t.val + j.val, h⟩ := by
  unfold scores score
  rw [queries_eq]
  unfold row k0_pay24 k0_pay23
  have hc : ∀ d : Fin 16, coordRows (F := Ideal) (iblk m c 1 t) (ix2 d j)
      = keyAt (m ((c.tc : Thread nD τ).loc main_arg1)) ⟨4096 * t.val + j.val, h⟩ d := fun d => by
    rw [coordRows, View.ld_unit_apply_of _ _ _ _ _ (ix2 ⟨d.val, by omega⟩ j)
      (fun a => by match a with | ⟨0, _⟩ => exact (Nat.zero_add _).symm | ⟨1, _⟩ => exact (Nat.zero_add _).symm)]
    rw [block_apply m c t _ j h, coords_apply _ _ d.isLt]
  have hn : normRow (F := Ideal) (iblk m c 1 t) (ix2 0 j)
      = ∑ d, keyAt (m ((c.tc : Thread nD τ).loc main_arg1)) ⟨4096 * t.val + j.val, h⟩ d
          * keyAt (m ((c.tc : Thread nD τ).loc main_arg1)) ⟨4096 * t.val + j.val, h⟩ d := by
    rw [normRow, View.ld_unit_apply_of _ _ _ _ _ (ix2 ⟨16, by omega⟩ j)
      (fun a => by match a with | ⟨0, _⟩ => rfl | ⟨1, _⟩ => exact (Nat.zero_add _).symm)]
    rw [block_apply m c t _ j h, norms_apply _ _ rfl]
  rw [← hn]
  simp only [← hc]
  generalize coordRows (F := Ideal) (iblk m c 1 t) = v5
  generalize normRow (F := Ideal) (iblk m c 1 t) = v8
  pointwise
  exact congrArg _ (Finset.sum_congr rfl fun d _ => by rw [scaled_apply])

/-- The two smallest of a query's scores, as the kernel's last point finds them. -/
theorem two_scores (c : Dev nD) (q : Fin 1024) :
    Two (count (score (m ((c.tc : Thread nD τ).loc main_arg0)) (m ((c.tc : Thread nD τ).loc main_arg1)) q))
      (k0_pay18 (F := Ideal) (state m c 24 last_lt).1 (ix2 q 0))
      (k0_pay19 (F := Ideal) (state m c 24 last_lt).1 (state m c 24 last_lt).2 (ix2 q 0)) := by
  have e := two_state m c q
  convert e using 1
  funext x
  refine (count_blocks (m := 25) (n := 4096) (score _ _ q) _ ?_ x).symm
  intro i j k hk
  have h : 4096 * i.val + j.val < 102400 := by rw [← hk]; exact k.isLt
  refine Eq.trans ?_ (scores_apply m c q ⟨i.val, lt_of_le_of_lt (Nat.le_of_lt_succ i.isLt) last_lt⟩ j h).symm
  exact congrArg _ (Fin.ext hk)

end Cert.KernelIdeal.Scores

end
-- ==== Proof.Loss.lean ====
/- The loss that both programs compute from three numbers per query. -/
module

public import Idealize.ShloMosaic.Lib.Pointwise
public import Idealize.ShloMosaic.Lib.IdealHost

@[expose] public section

noncomputable section

namespace Cert.Loss

open Idealize.ShloMosaic

/-- Query `q` is kept when its nearest distance is less than 0.8 of its second nearest; `near` and `next` are the two
    squared distances. -/
abbrev Kept (near next : Fin 1024 → EReal) (q : Fin 1024) : Prop :=
  Ideal.sqrt (near q) < Ideal.ofBits .f32 0x3F4CCCCD#32 * Ideal.sqrt (next q)

/-- How many queries are kept. -/
def kept (near next : Fin 1024 → EReal) : EReal := ∑ q, if Kept near next q then 1 else 0

/-- The distances `√(own q + 10⁻¹²)` averaged over the kept queries; zero when none is kept. -/
def loss (near next own : Fin 1024 → EReal) : EReal :=
  if 0 < kept near next then
    Ideal.div (∑ q, if Kept near next q then Ideal.sqrt (own q + Ideal.ofBits .f32 0x2B8CBCCC#32) else 0)
      (max (kept near next) 1)
  else 0

end Cert.Loss

end
-- ==== Proof.KernelLoss.lean ====
/- The kernel's loss, from each query's two smallest scores. -/
module

public import proofs.«01_k».proof.Proof.Scores
public import proofs.«01_k».proof.Proof.Loss

@[expose] public section

set_option maxRecDepth 16384

noncomputable section

namespace Cert.KernelIdeal.KernelLoss

open Cert.KernelIdeal Cert.KernelIdeal.Gen Cert.KernelIdeal.Cases Cert.Loss
open Idealize.ShloMosaic Idealize.ShloMosaic.Pointwise

/-- A quarter of the squared norm of row `q`. -/
def quarterNorm (v : FVec Ideal S1024x16 .f32) (q : Fin 1024) : EReal :=
  ((1 / 4 : ℝ) : EReal) * ∑ d, v (ix2 q d) * v (ix2 q d)

/-- The kernel's last step: the loss of the two scores per query, each raised by a quarter of the row's squared norm
    and clipped at zero. -/
theorem loss_apply (b1 b2 : FVec Ideal S1024x1 .f32) (v : FVec Ideal S1024x16 .f32) (i : S1x1.Idx) :
    k0_pay5 b1 b2 (k0_pay20 (k0_pay23 v)) i
      = loss (fun q => max (b1 (ix2 q 0) + quarterNorm v q) 0) (fun q => max (b2 (ix2 q 0) + quarterNorm v q) 0)
          (fun q => max (b1 (ix2 q 0) + quarterNorm v q) 0) := by
  unfold k0_pay5 k0_pay20 k0_pay23 loss kept
  pointwise
  simp only [Constants.sitofp_decide, Fin.sum_univ_one, Constants.quarter_eq]
  rfl

end Cert.KernelIdeal.KernelLoss

end
-- ==== Proof.TopTwo.lean ====
/- The two greatest entries of a row, as the reference's selection finds them. -/
module

public import proofs.«01_k».proof.Proof.Gen.ReferenceIdeal.Read
public import Idealize.ShloMosaic.Lib.SortFacts
public import Idealize.ShloMosaic.Lib.Pointwise

@[expose] public section

set_option maxRecDepth 16384

noncomputable section

namespace Cert.ReferenceIdeal.TopTwo

open Cert.ReferenceIdeal Cert.ReferenceIdeal.Gen
open Idealize.ShloMosaic Idealize.ShloMosaic.Pointwise

/-- Replacing the column of an index. -/
theorem along_row {n : ℕ} (q : Fin 1024) (r k : Fin n) :
    Shape.Idx.along (s := ⟨2, ![1024, n]⟩) (ix2 q r) 1 k = ix2 q k := by
  funext a
  match a with
  | ⟨0, _⟩ => rfl
  | ⟨1, _⟩ => rfl

/-- "Sorts before" in a row: strictly greater. -/
abbrev greater {n : ℕ} (f : Fin n → EReal) : Fin n → Fin n → Bool := fun k k' => decide (f k' < f k)

theorem greater_le {n : ℕ} (f : Fin n → EReal) {i j : Fin n} (hij : i < j) :
    f (sortedFrom (greater f) j) ≤ f (sortedFrom (greater f) i) := by
  have h := sortedFrom_noInversion (greater f) (greater f)
    (fun a b h => decide_eq_false (not_lt_of_gt (of_decide_eq_true h))) (fun _ _ h => h)
    (fun a b c h h' => decide_eq_false (not_lt.mpr
      (le_trans (not_lt.mp (of_decide_eq_false h)) (not_lt.mp (of_decide_eq_false h'))))) i j hij
  exact not_lt.mp (of_decide_eq_false h)

/-- A row's selection is at two distinct positions: the first no smaller than the second, the second no smaller than
    any other. -/
theorem select {n : ℕ} (hn : 2 ≤ n) (f : Fin n → EReal) {k₀ k₁ : Fin n}
    (h₀ : k₀ = sortedFrom (greater f) ⟨0, by omega⟩) (h₁ : k₁ = sortedFrom (greater f) ⟨1, by omega⟩) :
    k₁ ≠ k₀ ∧ f k₁ ≤ f k₀ ∧ ∀ k, k ≠ k₀ → f k ≤ f k₁ := by
  refine ⟨?_, ?_, ?_⟩
  · rw [h₀, h₁]
    intro h
    have := sortedFrom_injective _ h
    simp at this
  · rw [h₀, h₁]
    exact greater_le f (by simp)
  · intro k hk
    obtain ⟨i, rfl⟩ := sortedFrom_surjective (greater f) k
    have hi0 : i.val ≠ 0 := fun h => hk (by rw [h₀]; exact congrArg _ (Fin.ext h))
    by_cases hi1 : i.val = 1
    · rw [h₁]; exact le_of_eq (congrArg _ (congrArg _ (Fin.ext hi1)))
    · rw [h₁]; exact greater_le f (by rw [Fin.lt_def]; show 1 < i.val; omega)

/-- The order of the selection in a row. -/
theorem before_eq (v : FVec Ideal S1024x100000 .f32) (q : Fin 1024) (c : Fin 100000) :
    (fun k k' : Fin 100000 => (FloatOps.cmpfTotal (F := Ideal) (φ := .f32) .gt
      (v (Shape.Idx.along (s := S1024x100000) (ix2 q c) 1 k)) (v (Shape.Idx.along (s := S1024x100000) (ix2 q c) 1 k')) : BitVec 1) == 1#1)
      = greater fun k => v (ix2 q k) := by
  funext k k'
  rw [along_row q c k, along_row q c k']
  show (BitVec.ofBool (decide (v (ix2 q k') < v (ix2 q k))) == 1#1) = _
  by_cases h : v (ix2 q k') < v (ix2 q k) <;> simp [greater, h]

/-- A row sorted from the greatest down, with any second array carried along. -/
theorem sort_apply {α : Type} (v : FVec Ideal S1024x100000 .f32) (y : S1024x100000.Idx → α) (q : Fin 1024) (c : Fin 100000) :
    (Host.sort2 S1024x100000 1 (fun l r => (FloatOps.cmpfTotal (F := Ideal) (φ := .f32) .gt l.1 r.1 : BitVec 1)) v y).1 (ix2 q c)
        = v (ix2 q (sortedFrom (greater fun k => v (ix2 q k)) c))
      ∧ (Host.sort2 S1024x100000 1 (fun l r => (FloatOps.cmpfTotal (F := Ideal) (φ := .f32) .gt l.1 r.1 : BitVec 1)) v y).2 (ix2 q c)
        = y (ix2 q (sortedFrom (greater fun k => v (ix2 q k)) c)) := by
  rw [← before_eq v q c]
  unfold Host.sort2
  rw [dif_pos (show 1 < S1024x100000.rank by decide)]
  exact ⟨congrArg v (along_row q c _), congrArg y (along_row q c _)⟩

/-- The selection's two columns in a row: the values of the row at two positions, and the positions themselves. -/
theorem topK_apply (v : FVec Ideal S1024x100000 .f32) (q : Fin 1024) (r : Fin 2) :
    (Host.topK S1024x2 1 (FloatOps.cmpfTotal (F := Ideal) (φ := .f32) .gt) v sliceFits_S1024x100000_S1024x2).1 (ix2 q r)
        = v (ix2 q (sortedFrom (greater fun k => v (ix2 q k)) ⟨r.val, by omega⟩))
      ∧ (Host.topK S1024x2 1 (FloatOps.cmpfTotal (F := Ideal) (φ := .f32) .gt) v sliceFits_S1024x100000_S1024x2).2 (ix2 q r)
        = BitVec.ofNat 32 (sortedFrom (greater fun k => v (ix2 q k)) ⟨r.val, by omega⟩).val := by
  have hp : ∀ {α : Type} (x : S1024x100000.Idx → α), extractStridedSlice S1024x2 (fun _ => 0) x sliceFits_S1024x100000_S1024x2 (ix2 q r)
      = x (ix2 q (⟨r.val, by omega⟩ : Fin 100000)) := by
    intro α x
    unfold extractStridedSlice
    refine congrArg x (funext fun a => Fin.ext ?_)
    match a with
    | ⟨0, _⟩ => exact Nat.zero_add _
    | ⟨1, _⟩ => exact Nat.zero_add _
  unfold Host.topK
  dsimp only
  constructor
  · rw [hp]
    exact (sort_apply v _ q _).1
  · rw [hp]
    refine (sort_apply v _ q _).2.trans ?_
    rw [dif_pos (show 1 < S1024x100000.rank by decide)]
    rfl

end Cert.ReferenceIdeal.TopTwo

end
-- ==== Proof.RefRead.lean ====
/- The reference's result, read entry by entry. -/
module

public import proofs.«01_k».proof.Proof.TopTwo
public import proofs.«01_k».proof.Proof.Loss
public import proofs.«01_k».proof.Proof.Constants

@[expose] public section

set_option maxRecDepth 16384

noncomputable section

namespace Cert.ReferenceIdeal.RefRead

open Cert.ReferenceIdeal Cert.ReferenceIdeal.Gen Cert.ReferenceIdeal.Read Cert.Loss
open Idealize.ShloMosaic Idealize.ShloMosaic.Pointwise

variable (x0 : FVec Ideal S1024x16 .f32) (x1 : FVec Ideal S100000x16 .f32)

/-- The squared distance that the reference selects by: the two squared norms less twice the product, clipped at zero. -/
def expanded (q : Fin 1024) (k : Fin 100000) : EReal :=
  max 0 (((∑ d, x0 (ix2 q d) * x0 (ix2 q d)) + ∑ d, x1 (ix2 k d) * x1 (ix2 k d))
    - ((2 : ℝ) : EReal) * ∑ d, x0 (ix2 q d) * x1 (ix2 k d))

theorem negated_apply (q : Fin 1024) (k : Fin 100000) :
    val_main_v17 (F := Ideal) x0 x1 (ix2 q k) = -Ideal.sqrt (expanded x0 x1 q k) := by
  unfold val_main_v17 val_main_v16 val_main_v15 val_main_v14 val_main_v13 val_main_v12 val_main_v11 val_main_v10 val_main_v9
    val_main_v8 val_main_v7 val_main_v6 val_main_v5 val_main_v4 val_main_v3 val_main_v2 val_main_v1 val_main_v0
    val_main_call0_v1 val_main_call0_v0 val_main_cst_2 val_main_cst_1 val_main_cst_0 val_main_cst
  pointwise
  unfold expanded
  rw [Constants.two_eq, show (id (constant (F := Ideal) S_ .f32 0x00000000#32) ix0 : EReal) = 0 from Ideal.ofBits_zero_f32]

/-- The reference's last steps: the loss of the selected distances and of the gathered squared distance. -/
theorem loss_apply (i : S1x1.Idx) {near next : Fin 1024 → EReal}
    (h1 : ∀ q, val_main_v20 (F := Ideal) x0 x1 (ix1 q) = Ideal.sqrt (near q))
    (h2 : ∀ q, val_main_v22 (F := Ideal) x0 x1 (ix1 q) = Ideal.sqrt (next q)) :
    val_main_v43 (F := Ideal) x0 x1 i = loss near next fun q => val_main_v31 (F := Ideal) x0 x1 (ix1 q) := by
  unfold val_main_v43 val_main_v42 val_main_v41 val_main_v40 val_main_v39 val_main_v38 val_main_v37 val_main_v36 val_main_v35
    val_main_v34 val_main_v33 val_main_v32 val_main_v25 val_main_v24 val_main_v23
    val_main_call3_v0 val_main_call2_v1 val_main_call2_v0
    val_main_cst_11 val_main_cst_10 val_main_cst_9 val_main_cst_8 val_main_cst_7 val_main_cst_6 val_main_cst_5 val_main_cst_3
  generalize val_main_v31 (F := Ideal) x0 x1 = p
  pointwise
  simp only [h1, h2, Constants.uitofp_decide,
    show (id (constant (F := Ideal) S_ .f32 0x00000000#32) ix0 : EReal) = 0 from Ideal.ofBits_zero_f32]
  rfl

/-- The position of query `q`'s nearest (`r = 0`) and second nearest (`r = 1`) key. -/
def position (q : Fin 1024) (r : Fin 2) : Fin 100000 :=
  sortedFrom (TopTwo.greater fun k => val_main_v17 (F := Ideal) x0 x1 (ix2 q k)) ⟨r.val, by omega⟩

theorem values_apply (q : Fin 1024) (r : Fin 2) :
    val_main_v18 (F := Ideal) x0 x1 (ix2 q r) = Ideal.sqrt (expanded x0 x1 q (position x0 x1 q r)) := by
  unfold val_main_v18 val_main_values
  refine (congrArg (fun x : EReal => -x) (TopTwo.topK_apply (val_main_v17 (F := Ideal) x0 x1) q r).1).trans ?_
  rw [negated_apply]
  exact neg_neg _

theorem near_apply (q : Fin 1024) :
    val_main_v20 (F := Ideal) x0 x1 (ix1 q) = Ideal.sqrt (expanded x0 x1 q (position x0 x1 q 0)) := by
  rw [← values_apply]
  unfold val_main_v20 val_main_v19
  pointwise

theorem next_apply (q : Fin 1024) :
    val_main_v22 (F := Ideal) x0 x1 (ix1 q) = Ideal.sqrt (expanded x0 x1 q (position x0 x1 q 1)) := by
  rw [← values_apply]
  unfold val_main_v22 val_main_v21
  pointwise

theorem index_apply (q : Fin 1024) :
    val_main_v27 (F := Ideal) x0 x1 (ix1 q) = BitVec.ofNat 32 (position x0 x1 q 0).val := by
  have h := (TopTwo.topK_apply (val_main_v17 (F := Ideal) x0 x1) q 0).2
  refine Eq.trans ?_ h
  unfold val_main_v27 val_main_v26 val_main_indices
  pointwise

/-- A position's word is not negative and at most the last row's. -/
theorem word_facts (k : Fin 100000) :
    IntOp.cmpi .slt (BitVec.ofNat 32 k.val) 0#32 = 0#1 ∧ IntOp.cmpi .sge (BitVec.ofNat 32 k.val) 0#32 = 1#1 ∧
      IntOp.cmpi .sle (BitVec.ofNat 32 k.val) 99999#32 = 1#1 ∧ (BitVec.ofNat 32 k.val).toInt.toNat = k.val := by
  have hk := k.isLt
  have hn : (BitVec.ofNat 32 k.val).toNat = k.val := by
    rw [BitVec.toNat_ofNat]; exact Nat.mod_eq_of_lt (by omega)
  have hi : (BitVec.ofNat 32 k.val).toInt = (k.val : ℤ) := by
    rw [BitVec.toInt_eq_toNat_of_lt (by rw [hn]; omega), hn]
  have h0 : (0#32 : BitVec 32).toInt = 0 := by decide
  have h9 : (99999#32 : BitVec 32).toInt = 99999 := by decide
  refine ⟨?_, ?_, ?_, by rw [hi]; exact Int.toNat_natCast _⟩
  · show BitVec.ofBool (decide ((BitVec.ofNat 32 k.val).toInt < (0#32 : BitVec 32).toInt)) = 0#1
    rw [hi, h0, decide_eq_false (by omega)]
    rfl
  · show BitVec.ofBool (decide ((0#32 : BitVec 32).toInt ≤ (BitVec.ofNat 32 k.val).toInt)) = 1#1
    rw [hi, h0, decide_eq_true (by omega)]
    rfl
  · show BitVec.ofBool (decide ((BitVec.ofNat 32 k.val).toInt ≤ (99999#32 : BitVec 32).toInt)) = 1#1
    rw [hi, h9, decide_eq_true (by omega)]
    rfl

/-- The gather's start index: the nearest key's position, which the wrapping of negative positions leaves alone. -/
theorem start_apply (q : Fin 1024) :
    val_main_call1_v5 (F := Ideal) x0 x1 (ix2 q 0) = BitVec.ofNat 32 (position x0 x1 q 0).val := by
  unfold val_main_call1_v5 val_main_call1_v4 val_main_call1_v1 val_main_call1_v0 val_main_call1_c
  pointwise
  rw [index_apply, (word_facts _).1]
  rfl

/-- Every start index lies inside the keys. -/
theorem inside_apply (q : Fin 1024) : val_main_call1_v12 (F := Ideal) x0 x1 (ix1 q) = 1#1 := by
  unfold val_main_call1_v12 val_main_call1_v11 val_main_call1_v10 val_main_call1_v9 val_main_call1_v8 val_main_call1_v7
    val_main_call1_v6 val_main_call1_c_1 val_main_call1_c_2 val_main_call1_c_3
  pointwise
  have h : ∀ x : Fin 1, IntOp.andi (IntOp.cmpi .sge (val_main_call1_v5 (F := Ideal) x0 x1 (ix2 q x)) 0#32)
      (IntOp.cmpi .sle (val_main_call1_v5 (F := Ideal) x0 x1 (ix2 q x)) 99999#32) = 1#1 := fun x => by
    obtain rfl : x = 0 := Subsingleton.elim _ _
    rw [start_apply, (word_facts _).2.1, (word_facts _).2.2.1]
    rfl
  simp only [h]
  rfl

/-- Along the rows, the gather adds no offset inside its slice. -/
theorem row_offset (j : S1024x16.Idx) :
    gather_S100000x16_S1024x1_S1024x16_1_0_n_n_0_1_116.offCoord j (0 : Fin 2) = 0 :=
  GatherDims.offCoord_eq_zero _ _ _ (fun h => ((GatherDims.mem_sKept _ _).mp h).1 (List.mem_singleton.mpr rfl))

/-- Along the coordinates, the gather's offset is the coordinate asked for. -/
theorem column_offset (q : Fin 1024) (d : Fin 16) :
    gather_S100000x16_S1024x1_S1024x16_1_0_n_n_0_1_116.offCoord (ix2 q d) (1 : Fin 2) = d.val := by
  have hm : (1 : Fin 2) ∈ gather_S100000x16_S1024x1_S1024x16_1_0_n_n_0_1_116.sKept :=
    (GatherDims.mem_sKept _ _).mpr ⟨by decide, List.not_mem_nil⟩
  unfold GatherDims.offCoord
  exact (dif_pos hm).trans rfl

/-- Along the coordinates, the gather starts at zero. -/
theorem column_start (j : S1024x16.Idx) (w : Vec Ideal S1024x1 .i32) :
    gather_S100000x16_S1024x1_S1024x16_1_0_n_n_0_1_116.start j w (1 : Fin 2) = 0 := by
  unfold GatherDims.start
  exact dif_neg (by decide)

/-- Along the rows, the gather starts at the word it is given, held inside the array. -/
theorem row_start (q : Fin 1024) (d : Fin 16) (w : Vec Ideal S1024x1 .i32) :
    gather_S100000x16_S1024x1_S1024x16_1_0_n_n_0_1_116.start (ix2 q d) w (0 : Fin 2)
      = min (w (ix2 q 0)).toInt.toNat 99999 := by
  unfold GatherDims.start
  refine (dif_pos (List.mem_singleton.mpr rfl)).trans ?_
  have hs : gather_S100000x16_S1024x1_S1024x16_1_0_n_n_0_1_116.siIdx (ix2 q d) ⟨0, by decide⟩ = ix2 q 0 := by
    funext b
    match b with
    | ⟨0, _⟩ => rfl
    | ⟨1, _⟩ => rfl
  exact congrArg (fun i => min (w i).toInt.toNat 99999) hs

/-- The row the gather reads is the one its word names. -/
theorem gather_index (q : Fin 1024) (d : Fin 16) (w : Vec Ideal S1024x1 .i32) (k : Fin 100000)
    (hw : (w (ix2 q 0)).toInt.toNat = k.val) :
    gather_S100000x16_S1024x1_S1024x16_1_0_n_n_0_1_116.operandIdx (ix2 q d) w = ix2 k d := by
  have hk : min (w (ix2 q 0)).toInt.toNat 99999 = k.val := by have := k.isLt; omega
  funext a
  refine Fin.ext ?_
  show GatherDims.start _ _ _ a + GatherDims.batchCoord _ _ a + GatherDims.offCoord _ _ a = _
  rw [GatherDims.batchCoord_eq_zero _ _ _ List.not_mem_nil, Nat.add_zero]
  match a with
  | ⟨0, _⟩ => exact (congrArg₂ (· + ·) ((row_start q d w).trans hk) (row_offset (ix2 q d))).trans (Nat.add_zero _)
  | ⟨1, _⟩ => exact (congrArg₂ (· + ·) (column_start (ix2 q d) w) (column_offset q d)).trans (Nat.zero_add _)

/-- The gather takes the nearest key's row. -/
theorem gathered_apply (q : Fin 1024) (d : Fin 16) :
    val_main_call1_v13 (F := Ideal) x0 x1 (ix2 q d) = x1 (ix2 (position x0 x1 q 0) d) := by
  unfold val_main_call1_v13 Host.gather
  refine congrArg x1 (gather_index q d _ _ ?_)
  rw [start_apply]
  exact (word_facts _).2.2.2

/-- The squared distance to the gathered key. -/
theorem own_apply (q : Fin 1024) :
    val_main_v31 (F := Ideal) x0 x1 (ix1 q)
      = ∑ d, (x0 (ix2 q d) - x1 (ix2 (position x0 x1 q 0) d)) * (x0 (ix2 q d) - x1 (ix2 (position x0 x1 q 0) d)) := by
  unfold val_main_v31 val_main_v30 val_main_v29 val_main_v28 val_main_call1_v14 val_main_cst_4
  pointwise
  refine Finset.sum_congr rfl fun d _ => ?_
  rw [inside_apply, gathered_apply]
  rfl

/-- The two positions: distinct, the first selected distance no greater than the second, the second no greater than
    any other key's. -/
theorem position_facts (q : Fin 1024) :
    position x0 x1 q 1 ≠ position x0 x1 q 0 ∧
      Ideal.sqrt (expanded x0 x1 q (position x0 x1 q 0)) ≤ Ideal.sqrt (expanded x0 x1 q (position x0 x1 q 1)) ∧
      ∀ k, k ≠ position x0 x1 q 0 →
        Ideal.sqrt (expanded x0 x1 q (position x0 x1 q 1)) ≤ Ideal.sqrt (expanded x0 x1 q k) := by
  obtain ⟨h1, h2, h3⟩ := TopTwo.select (by decide) (fun k => val_main_v17 (F := Ideal) x0 x1 (ix2 q k))
    (k₀ := position x0 x1 q 0) (k₁ := position x0 x1 q 1) rfl rfl
  simp only [negated_apply, EReal.neg_le_neg_iff] at h2 h3
  exact ⟨h1, h2, h3⟩

/-- The reference's loss. -/
theorem result_apply (i : S1x1.Idx) :
    val_main_v43 (F := Ideal) x0 x1 i
      = loss (fun q => expanded x0 x1 q (position x0 x1 q 0)) (fun q => expanded x0 x1 q (position x0 x1 q 1)) (fun q =>
          ∑ d, (x0 (ix2 q d) - x1 (ix2 (position x0 x1 q 0) d)) * (x0 (ix2 q d) - x1 (ix2 (position x0 x1 q 0) d))) := by
  rw [loss_apply x0 x1 i (near_apply x0 x1) (next_apply x0 x1)]
  exact congrArg _ (funext fun q => own_apply x0 x1 q)

end Cert.ReferenceIdeal.RefRead

end
-- ==== Proof.Equation.lean ====
/- The equation between the two programs: on real arrays within 333, the kernel's loss of its two smallest scores
   over the padded keys is the reference's loss of its two selected distances over the keys. -/
module

public import proofs.«01_k».proof.Proof.KernelLoss
public import proofs.«01_k».proof.Proof.RefRead

@[expose] public section

set_option maxRecDepth 16384

noncomputable section

namespace Cert.Equation

open Cert.KernelIdeal.Arrays Cert.KernelIdeal.Scores Cert.KernelIdeal.KernelLoss Cert.ReferenceIdeal.RefRead
open Cert.TwoSmallest Cert.Loss
open Idealize.ShloMosaic Idealize.ShloMosaic.Pointwise

/-! ## Over the reals -/

/-- The squared distance of two points. -/
def dist (a b : Fin 16 → ℝ) : ℝ := ∑ d, (a d - b d) * (a d - b d)

/-- The squared norm of a point. -/
def norm (a : Fin 16 → ℝ) : ℝ := ∑ d, a d * a d

theorem dist_nonneg (a b : Fin 16 → ℝ) : 0 ≤ dist a b := Finset.sum_nonneg fun d _ => mul_self_nonneg _

/-- Squaring out: the squared norms less twice the product. -/
theorem dist_expand (a b : Fin 16 → ℝ) : dist a b = norm a + norm b - 2 * ∑ d, a d * b d := by
  unfold dist norm
  rw [Finset.mul_sum, ← Finset.sum_add_distrib, ← Finset.sum_sub_distrib]
  exact Finset.sum_congr rfl fun d _ => by ring

/-- A point within 333 is no farther from another such point than from the point all of whose coordinates are 1000. -/
theorem dist_le_far {a b : Fin 16 → ℝ} (ha : ∀ d, |a d| ≤ 333) (hb : ∀ d, |b d| ≤ 333) :
    dist a b ≤ dist a fun _ => 1000 := by
  refine Finset.sum_le_sum fun d _ => abs_le_iff_mul_self_le.mp ?_
  have h1 := abs_le.mp (ha d)
  have h2 := abs_le.mp (hb d)
  refine le_trans (abs_le.mpr ⟨?_, ?_⟩ : |a d - b d| ≤ 666) (le_abs.mpr (Or.inr ?_)) <;> linarith

/-- The coordinates of padded key `k`: the key's, or 1000 past the last key. -/
def padKey (b : Fin 100000 → Fin 16 → ℝ) (k : Fin 102400) (d : Fin 16) : ℝ :=
  if h : k.val < 100000 then b ⟨k.val, h⟩ d else 1000

/-! ## From the extended reals to the reals -/

/-- A sum of reals is real. -/
theorem sum_coe {n : ℕ} (f : Fin n → ℝ) : (∑ d, ((f d : ℝ) : EReal)) = ((∑ d, f d : ℝ) : EReal) := by
  induction n with
  | zero => simp
  | succ n ih => rw [Fin.sum_univ_succ, Fin.sum_univ_succ, ih, EReal.coe_add]

/-- The square root keeps and reflects the order of nonnegative reals. -/
theorem sqrt_le_iff {x y : ℝ} (hx : 0 ≤ x) (hy : 0 ≤ y) :
    Ideal.sqrt (x : EReal) ≤ Ideal.sqrt (y : EReal) ↔ x ≤ y := by
  have e : ∀ {z : ℝ}, 0 ≤ z → Ideal.sqrt (z : EReal) = ((Real.sqrt z : ℝ) : EReal) := fun {z} hz =>
    if_neg (not_lt.mpr hz)
  rw [e hx, e hy, EReal.coe_le_coe_iff, Real.sqrt_le_sqrt_iff hy]

section

variable {x0 : FVec Ideal KernelIdeal.S1024x16 .f32} {x1 : FVec Ideal KernelIdeal.S100000x16 .f32}
  {a : Fin 1024 → Fin 16 → ℝ} {b : Fin 100000 → Fin 16 → ℝ}
  (ha : ∀ q d, x0 (ix2 q d) = ((a q d : ℝ) : EReal)) (hb : ∀ k d, x1 (ix2 k d) = ((b k d : ℝ) : EReal))

include hb in
theorem keyAt_real (k : Fin 102400) (d : Fin 16) : keyAt x1 k d = ((padKey b k d : ℝ) : EReal) := by
  unfold keyAt padKey
  split
  · exact hb _ d
  · rfl

include ha hb in
/-- A score is the squared distance less the query's squared norm. -/
theorem score_real (q : Fin 1024) (k : Fin 102400) :
    score x0 x1 q k = ((dist (a q) (padKey b k) - norm (a q) : ℝ) : EReal) := by
  unfold score
  simp only [ha, keyAt_real hb, ← EReal.coe_mul]
  rw [sum_coe, sum_coe, ← EReal.coe_add, dist_expand]
  refine congrArg _ ?_
  have e : (∑ d, (-2 : ℝ) * a q d * padKey b k d) = -2 * ∑ d, a q d * padKey b k d := by
    rw [Finset.mul_sum]
    exact Finset.sum_congr rfl fun d _ => by ring
  rw [e]
  unfold norm
  ring

include ha in
/-- A quarter of the squared norm of twice the query is the query's squared norm. -/
theorem quarterNorm_real (q : Fin 1024) : quarterNorm (scaled x0) q = ((norm (a q) : ℝ) : EReal) := by
  unfold quarterNorm
  simp only [scaled_apply, ha, ← EReal.coe_mul]
  rw [sum_coe, ← EReal.coe_mul]
  refine congrArg _ ?_
  unfold norm
  rw [Finset.mul_sum]
  exact Finset.sum_congr rfl fun d _ => by ring

include ha hb in
/-- The reference's clipped expansion is the squared distance. -/
theorem expanded_real (q : Fin 1024) (k : Fin 100000) :
    expanded x0 x1 q k = ((dist (a q) (b k) : ℝ) : EReal) := by
  unfold expanded
  simp only [ha, hb, ← EReal.coe_mul]
  rw [sum_coe, sum_coe, sum_coe, ← EReal.coe_mul, ← EReal.coe_add, ← EReal.coe_sub]
  have e : (∑ d, a q d * a q d) + (∑ d, b k d * b k d) - 2 * ∑ d, a q d * b k d = dist (a q) (b k) :=
    (dist_expand _ _).symm
  rw [e]
  exact max_eq_right (EReal.coe_nonneg.mpr (dist_nonneg _ _))

include ha hb in
/-- The reference's squared distance to a key, summed directly. -/
theorem own_real (q : Fin 1024) (k : Fin 100000) :
    (∑ d, (x0 (ix2 q d) - x1 (ix2 k d)) * (x0 (ix2 q d) - x1 (ix2 k d))) = ((dist (a q) (b k) : ℝ) : EReal) := by
  simp only [ha, hb, ← EReal.coe_sub, ← EReal.coe_mul]
  exact sum_coe _

/-- Key `k` as a padded key. -/
def inPadded (k : Fin 100000) : Fin 102400 := ⟨k.val, by have := k.isLt; omega⟩

theorem padKey_inPadded (b : Fin 100000 → Fin 16 → ℝ) (k : Fin 100000) : padKey b (inPadded k) = b k := by
  funext d
  unfold padKey inPadded
  rw [dif_pos k.isLt]

theorem inPadded_injective {k k' : Fin 100000} (h : inPadded k = inPadded k') : k = k' := by
  unfold inPadded at h
  exact Fin.ext (Fin.mk.inj h)

theorem eq_inPadded {k : Fin 102400} (h : k.val < 100000) : ∃ k' : Fin 100000, k = inPadded k' := by
  refine ⟨⟨k.val, h⟩, ?_⟩
  unfold inPadded
  rfl

/-- Past the last key, every coordinate is 1000. -/
theorem padKey_far (b : Fin 100000 → Fin 16 → ℝ) {k : Fin 102400} (h : ¬ k.val < 100000) :
    padKey b k = fun _ => 1000 := by
  funext d
  unfold padKey
  rw [dif_neg h]

include ha hb in
/-- The scores are ordered as the squared distances. -/
theorem score_le (q : Fin 1024) {k k' : Fin 102400} (h : dist (a q) (padKey b k) ≤ dist (a q) (padKey b k')) :
    score x0 x1 q k ≤ score x0 x1 q k' := by
  rw [score_real ha hb, score_real ha hb, EReal.coe_le_coe_iff]
  linarith

include ha hb in
/-- The reference's two positions, by squared distances. -/
theorem position_dist (q : Fin 1024) :
    position x0 x1 q 1 ≠ position x0 x1 q 0 ∧
      dist (a q) (b (position x0 x1 q 0)) ≤ dist (a q) (b (position x0 x1 q 1)) ∧
      ∀ k, k ≠ position x0 x1 q 0 → dist (a q) (b (position x0 x1 q 1)) ≤ dist (a q) (b k) := by
  obtain ⟨hne, h01, hmin⟩ := position_facts x0 x1 q
  refine ⟨hne, ?_, fun k hk => ?_⟩
  · rw [expanded_real ha hb, expanded_real ha hb] at h01
    exact (sqrt_le_iff (dist_nonneg _ _) (dist_nonneg _ _)).mp h01
  · have h := hmin k hk
    rw [expanded_real ha hb, expanded_real ha hb] at h
    exact (sqrt_le_iff (dist_nonneg _ _) (dist_nonneg _ _)).mp h

include ha hb in
/-- The kernel's two smallest scores over the padded keys are the scores of the reference's two positions. -/
theorem two_positions (hA : ∀ q d, |a q d| ≤ 333) (hB : ∀ k d, |b k d| ≤ 333) (q : Fin 1024) :
    Two (count (score x0 x1 q)) (score x0 x1 q (inPadded (position x0 x1 q 0)))
      (score x0 x1 q (inPadded (position x0 x1 q 1))) := by
  obtain ⟨hne, h01, hmin⟩ := position_dist ha hb q
  generalize position x0 x1 q 0 = k₀ at *
  generalize position x0 x1 q 1 = k₁ at *
  refine two_of_order (fun h => hne (inPadded_injective h)) (score_le ha hb q ?_) fun k hk => score_le ha hb q ?_
  · rw [padKey_inPadded, padKey_inPadded]
    exact h01
  · rw [padKey_inPadded]
    by_cases h : k.val < 100000
    · obtain ⟨k', rfl⟩ := eq_inPadded h
      rw [padKey_inPadded]
      exact hmin k' fun h' => hk (congrArg inPadded h')
    · rw [padKey_far b h]
      exact dist_le_far (hA q) (hB k₁)

include ha hb in
/-- A score raised by the quarter norm and clipped at zero is the squared distance. -/
theorem raised_real (q : Fin 1024) (k : Fin 100000) :
    max (score x0 x1 q (inPadded k) + quarterNorm (scaled x0) q) 0 = ((dist (a q) (b k) : ℝ) : EReal) := by
  rw [score_real ha hb, quarterNorm_real ha, padKey_inPadded, ← EReal.coe_add, sub_add_cancel]
  exact max_eq_left (EReal.coe_nonneg.mpr (dist_nonneg _ _))

include ha hb in
/-- The kernel's loss of each query's two smallest scores is the reference's result. -/
theorem loss_eq (hA : ∀ q d, |a q d| ≤ 333) (hB : ∀ k d, |b k d| ≤ 333) (b1 b2 : FVec Ideal KernelIdeal.S1024x1 .f32)
    (h : ∀ q, Two (count (score x0 x1 q)) (b1 (ix2 q 0)) (b2 (ix2 q 0))) (i : KernelIdeal.S1x1.Idx) :
    KernelIdeal.Gen.k0_pay5 b1 b2 (KernelIdeal.Gen.k0_pay20 (KernelIdeal.Gen.k0_pay23 (scaled x0))) i
      = ReferenceIdeal.Read.val_main_v43 (F := Ideal) x0 x1 i := by
  rw [KernelIdeal.KernelLoss.loss_apply, result_apply]
  have e := fun q => (h q).unique (two_positions ha hb hA hB q)
  simp only [(e _).1, (e _).2, raised_real ha hb, expanded_real ha hb, own_real ha hb]

end

/-! ## The bound -/

/-- An extended real of absolute value at most 333 is a real of absolute value at most 333. -/
theorem real_of_le {x : EReal} (h : max x (-x) ≤ ((333 : ℝ) : EReal)) : ∃ r : ℝ, x = (r : EReal) ∧ |r| ≤ 333 := by
  obtain ⟨h1, h2⟩ := max_le_iff.mp h
  induction x with
  | bot => exact absurd h2 (by simp)
  | top => exact absurd h1 (by simp)
  | coe r =>
    refine ⟨r, rfl, abs_le'.mpr ⟨EReal.coe_le_coe_iff.mp h1, ?_⟩⟩
    rw [← EReal.coe_neg] at h2
    exact EReal.coe_le_coe_iff.mp h2

/-- The comparison's answer one says that the entry is at most 333. -/
theorem le_of_cmp {x : EReal} (h : Ideal.cmp .ole x (Ideal.ofBits .f32 0x43A68000#32) = 1#1) :
    x ≤ ((333 : ℝ) : EReal) := by
  rw [Constants.bound_eq] at h
  by_contra hn
  refine absurd h ?_
  show BitVec.ofBool (decide (x ≤ ((333 : ℝ) : EReal))) ≠ 1#1
  rw [decide_eq_false hn]
  decide

end Cert.Equation

end
-- ==== Proof.lean ====
module

public import proofs.«01_k».proof.Defs
public import proofs.«01_k».proof.Proof.Gen.Kernel.Frame
public import proofs.«01_k».proof.Proof.Gen.KernelIdeal.Value
public import proofs.«01_k».proof.Proof.Gen.Pre_within_333
public import proofs.«01_k».proof.Proof.Gen.ReferenceIdeal.Run
public import proofs.«01_k».proof.Proof.Equation
public import Idealize.ShloMosaic.Adequacy
public import Idealize.ShloMosaic.Init
public import Idealize.ShloMosaic.Lib.Quiescent
public import Idealize.ShloMosaic.Lib.Tactic.ValueTie

@[expose] public section

noncomputable section

namespace Cert.Proof

open Idealize.ShloMosaic Idealize.SL.Sem

/-- The reference terminates without fault, leaves its arguments unchanged and every counter at zero. -/
theorem frame_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same under the precondition, which the frame does not need. -/
theorem frame_ReferenceIdeal_pre : Cert.quiescent_ReferenceIdeal_pre_within_333 := fun m ρ _ =>
  frame_ReferenceIdeal m ρ trivial

/-- The kernel's result is the reference's: on arrays within 333 both are the loss of each query's distances to its
    nearest and second nearest key. -/
theorem algebraic : Cert.algebraic_KernelIdeal_ReferenceIdeal_pre_within_333 := by
  intro m ρ m' ρ' hpre hagree
  refine ⟨_, Cert.KernelIdeal.Value.run (F := Ideal) m ρ, ?_⟩
  refine (θ_run Cert.ReferenceIdeal.defs _ _).mono (fun _ h c => ⟨?_, (h c).2⟩) (Cert.ReferenceIdeal.Value.run (F := Ideal) m' ρ')
  rw [(h c).1]
  refine (Cert.ReferenceIdeal.Read.val_main_v43_eq m' c).trans ?_
  rw [(hagree c).1, (hagree c).2]
  refine Eq.trans ?_ (Cert.KernelIdeal.Cases.result_eq m c).symm
  obtain ⟨h0, h1⟩ := hpre c
  choose a ha hA using fun (q : Fin 1024) (d : Fin 16) =>
    Cert.Equation.real_of_le (Cert.Equation.le_of_cmp (congrFun h0 (ix2 q d)))
  choose b hb hB using fun (k : Fin 100000) (d : Fin 16) =>
    Cert.Equation.real_of_le (Cert.Equation.le_of_cmp (congrFun h1 (ix2 k d)))
  rw [Cert.KernelIdeal.Scores.queries_eq]
  funext i
  exact (Cert.Equation.loss_eq ha hb hA hB _ _ (Cert.KernelIdeal.Scores.two_scores m c) i).symm

theorem claim : Cert.Claim :=
  ⟨Cert.Kernel.Gen.facts, Cert.KernelIdeal.Gen.facts, Cert.ReferenceIdeal.Gen.facts, Cert.Pre_within_333.Gen.facts,
    fun m ρ _ => Cert.Kernel.Gen.frame m ρ, fun m ρ _ => Cert.KernelIdeal.Gen.frame m ρ,
    fun m ρ _ => Cert.KernelIdeal.Gen.frame m ρ, frame_ReferenceIdeal, frame_ReferenceIdeal_pre, trivial, algebraic⟩

end Cert.Proof

end
